-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨4, ![4, 1024, 16, 128]⟩ ⟨4, ![4, 1024, 32, 128]⟩ (Layout.meshBlock [2, 2] ![[], [], [0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![2048, 4096]⟩ ⟨2, ![4096, 4096]⟩ (Layout.meshBlock [2, 2] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.blockN ⟨3, ![4, 512, 4096]⟩ ⟨3, ![4, 1024, 4096]⟩ (Layout.meshBlock [2, 2] ![[], [0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x1024x16x128 : Shape := ⟨4, ![4, 1024, 16, 128]⟩
abbrev S2048x4096 : Shape := ⟨2, ![2048, 4096]⟩
abbrev S4x1024x2048 : Shape := ⟨3, ![4, 1024, 2048]⟩
abbrev S4x512x4096 : Shape := ⟨3, ![4, 512, 4096]⟩
abbrev S2x512x2048 : Shape := ⟨3, ![2, 512, 2048]⟩
abbrev S2048x2048 : Shape := ⟨2, ![2048, 2048]⟩
abbrev S4x512x2048 : Shape := ⟨3, ![4, 512, 2048]⟩
abbrev S4 : Shape := ⟨1, ![4]⟩
abbrev S8 : Shape := ⟨1, ![8]⟩
abbrev S2 : Shape := ⟨1, ![2]⟩
abbrev S_ : Shape := ⟨0, ![]⟩
abbrev S1 : Shape := ⟨1, ![1]⟩
abbrev S1x512x2048 : Shape := ⟨3, ![1, 512, 2048]⟩
abbrev S512x2048 : Shape := ⟨2, ![512, 2048]⟩
abbrev S1024x2048 : Shape := ⟨2, ![1024, 2048]⟩
abbrev S256x2048 : Shape := ⟨2, ![256, 2048]⟩
abbrev S1x256x2048 : Shape := ⟨3, ![1, 256, 2048]⟩

abbrev nBuf : Space → Nat
  | .hbm => 4
  | .vmem => 5
  | .smem => 0
  | _ => 0

abbrev bufTy : (tb : Table) → Fin (tcTables nBuf tb) → BufTy
  | .hbm, ⟨0, _⟩ => ⟨S4x1024x16x128, .f32⟩
  | .hbm, ⟨1, _⟩ => ⟨S2048x4096, .f32⟩
  | .hbm, ⟨2, _⟩ => ⟨S4x1024x2048, .f32⟩
  | .hbm, ⟨3, _⟩ => ⟨S4x512x4096, .bf16⟩
  | .local _ .vmem, ⟨0, _⟩ => ⟨S2x512x2048, .f32⟩
  | .local _ .vmem, ⟨1, _⟩ => ⟨S2048x2048, .bf16⟩
  | .local _ .vmem, ⟨2, _⟩ => ⟨S2x512x2048, .f32⟩
  | .local _ .vmem, ⟨3, _⟩ => ⟨S4x512x2048, .bf16⟩
  | .local _ .vmem, ⟨4, _⟩ => ⟨S4x512x2048, .bf16⟩
  | _, _ => ⟨S4x1024x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  (ofTc nBuf bufTy 1 31 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev barrier0 : Sem sig := 0

abbrev nD : Nat := 4
abbrev τ : Topo := Topo.v7x

variable {F : FTy → Type} [FloatOps F]

abbrev grid0 : Pipeline.Grid := .none

def k0_off1 (d0 : Dev nD) : Fin 2 → Nat :=
  let c0_i32_9 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v11 : BitVec 32 := Scalar.muli v5 c2048_i32
  ![0, v11.toNat]
def k0_off2 (d0 : Dev nD) : Fin 2 → Nat :=
  let c512_i32_14 : BitVec 32 := 512#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v11 : BitVec 32 := Scalar.muli v5 c2048_i32
  ![512, v11.toNat]
def k0_off3 (d0 : Dev nD) : Fin 3 → Nat :=
  let c0_i32_15 : BitVec 32 := 0#32
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_4 v2
  let c512_i32 : BitVec 32 := 512#32
  let v9 : BitVec 32 := Scalar.muli v8 c512_i32
  let c0_i32_16 : BitVec 32 := 0#32
  ![0, v9.toNat, 0]
def k0_dev1 (d0 : Dev nD) : Nat :=
  let c0_i32_19 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_18 : BitVec 32 := 2#32
  let v24 : BitVec 32 := Scalar.muli v6 c2_i32_18
  let v25 : BitVec 32 := Scalar.addi c0_i32_19 v24
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_20 : BitVec 32 := 1#32
  let v26 : BitVec 32 := Scalar.muli v5 c1_i32_20
  let v27 : BitVec 32 := Scalar.addi v25 v26
  v27.toNat
def k0_dev2 (d0 : Dev nD) : Nat :=
  let c0_i32_23 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_22 : BitVec 32 := 2#32
  let v28 : BitVec 32 := Scalar.muli v2 c2_i32_22
  let v29 : BitVec 32 := Scalar.addi c0_i32_23 v28
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_24 : BitVec 32 := 1#32
  let v30 : BitVec 32 := Scalar.muli v7 c1_i32_24
  let v31 : BitVec 32 := Scalar.addi v29 v30
  v31.toNat
def k0_off4 (d0 : Dev nD) : Fin 2 → Nat :=
  let c1024_i32 : BitVec 32 := 1024#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v11 : BitVec 32 := Scalar.muli v5 c2048_i32
  ![1024, v11.toNat]
def k0_off5 (d0 : Dev nD) : Fin 2 → Nat :=
  let c1536_i32 : BitVec 32 := 1536#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v11 : BitVec 32 := Scalar.muli v5 c2048_i32
  ![1536, v11.toNat]
def k0_off6 (d0 : Dev nD) : Fin 3 → Nat :=
  let c2_i32_74 : BitVec 32 := 2#32
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_4 v2
  let c512_i32 : BitVec 32 := 512#32
  let v9 : BitVec 32 := Scalar.muli v8 c512_i32
  let c0_i32_75 : BitVec 32 := 0#32
  ![2, v9.toNat, 0]
def k0_dev3 (d0 : Dev nD) : Nat :=
  let c0_i32_86 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_85 : BitVec 32 := 2#32
  let v98 : BitVec 32 := Scalar.muli v6 c2_i32_85
  let v99 : BitVec 32 := Scalar.addi c0_i32_86 v98
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_87 : BitVec 32 := 1#32
  let v100 : BitVec 32 := Scalar.muli v5 c1_i32_87
  let v101 : BitVec 32 := Scalar.addi v99 v100
  v101.toNat
def k0_dev4 (d0 : Dev nD) : Nat :=
  let c0_i32_100 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_99 : BitVec 32 := 2#32
  let v115 : BitVec 32 := Scalar.muli v6 c2_i32_99
  let v116 : BitVec 32 := Scalar.addi c0_i32_100 v115
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_101 : BitVec 32 := 1#32
  let v117 : BitVec 32 := Scalar.muli v5 c1_i32_101
  let v118 : BitVec 32 := Scalar.addi v116 v117
  v118.toNat
def k0_dev5 (d0 : Dev nD) : Nat :=
  let c0_i32_121 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_120 : BitVec 32 := 2#32
  let v138 : BitVec 32 := Scalar.muli v6 c2_i32_120
  let v139 : BitVec 32 := Scalar.addi c0_i32_121 v138
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_122 : BitVec 32 := 1#32
  let v140 : BitVec 32 := Scalar.muli v5 c1_i32_122
  let v141 : BitVec 32 := Scalar.addi v139 v140
  v141.toNat
def k0_dev6 (d0 : Dev nD) : Nat :=
  let c0_i32_133 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_132 : BitVec 32 := 2#32
  let v155 : BitVec 32 := Scalar.muli v6 c2_i32_132
  let v156 : BitVec 32 := Scalar.addi c0_i32_133 v155
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_134 : BitVec 32 := 1#32
  let v157 : BitVec 32 := Scalar.muli v5 c1_i32_134
  let v158 : BitVec 32 := Scalar.addi v156 v157
  v158.toNat
def k0_off7 (d0 : Dev nD) : Fin 3 → Nat :=
  let c0_i32_139 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32_5 : BitVec 32 := 512#32
  let v10 : BitVec 32 := Scalar.muli v2 c512_i32_5
  let c0_i32_140 : BitVec 32 := 0#32
  ![0, v10.toNat, 0]
def k0_off8 (d0 : Dev nD) : Fin 3 → Nat :=
  let c2_i32_146 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32_5 : BitVec 32 := 512#32
  let v10 : BitVec 32 := Scalar.muli v2 c512_i32_5
  let c0_i32_147 : BitVec 32 := 0#32
  ![2, v10.toNat, 0]
def k0_off9 (d0 : Dev nD) : Fin 3 → Nat :=
  let c0_i32_178 : BitVec 32 := 0#32
  let c0_i32_184 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v11 : BitVec 32 := Scalar.muli v5 c2048_i32
  ![0, 0, v11.toNat]
def k0_dev7 (d0 : Dev nD) : Nat :=
  let c0_i32_182 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_181 : BitVec 32 := 2#32
  let v200 : BitVec 32 := Scalar.muli v2 c2_i32_181
  let v201 : BitVec 32 := Scalar.addi c0_i32_182 v200
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_183 : BitVec 32 := 1#32
  let v202 : BitVec 32 := Scalar.muli v7 c1_i32_183
  let v203 : BitVec 32 := Scalar.addi v201 v202
  v203.toNat
def k0_off10 (d0 : Dev nD) : Fin 3 → Nat :=
  let c0_i32_193 : BitVec 32 := 0#32
  let c256_i32 : BitVec 32 := 256#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v11 : BitVec 32 := Scalar.muli v5 c2048_i32
  ![0, 256, v11.toNat]
def k0_dev8 (d0 : Dev nD) : Nat :=
  let c0_i32_197 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_196 : BitVec 32 := 2#32
  let v221 : BitVec 32 := Scalar.muli v2 c2_i32_196
  let v222 : BitVec 32 := Scalar.addi c0_i32_197 v221
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_198 : BitVec 32 := 1#32
  let v223 : BitVec 32 := Scalar.muli v7 c1_i32_198
  let v224 : BitVec 32 := Scalar.addi v222 v223
  v224.toNat
def k0_off11 (d0 : Dev nD) : Fin 3 → Nat :=
  let c0_i32_202 : BitVec 32 := 0#32
  let c0_i32_204 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v11 : BitVec 32 := Scalar.muli v5 c2048_i32
  ![0, 0, v11.toNat]
def k0_off12 (d0 : Dev nD) : Fin 3 → Nat :=
  let c1_i32_234 : BitVec 32 := 1#32
  let c0_i32_240 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v11 : BitVec 32 := Scalar.muli v5 c2048_i32
  ![1, 0, v11.toNat]
def k0_dev9 (d0 : Dev nD) : Nat :=
  let c0_i32_238 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_237 : BitVec 32 := 2#32
  let v264 : BitVec 32 := Scalar.muli v2 c2_i32_237
  let v265 : BitVec 32 := Scalar.addi c0_i32_238 v264
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_239 : BitVec 32 := 1#32
  let v266 : BitVec 32 := Scalar.muli v7 c1_i32_239
  let v267 : BitVec 32 := Scalar.addi v265 v266
  v267.toNat
def k0_off13 (d0 : Dev nD) : Fin 3 → Nat :=
  let c1_i32_250 : BitVec 32 := 1#32
  let c256_i32_256 : BitVec 32 := 256#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v11 : BitVec 32 := Scalar.muli v5 c2048_i32
  ![1, 256, v11.toNat]
def k0_dev10 (d0 : Dev nD) : Nat :=
  let c0_i32_254 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_253 : BitVec 32 := 2#32
  let v285 : BitVec 32 := Scalar.muli v2 c2_i32_253
  let v286 : BitVec 32 := Scalar.addi c0_i32_254 v285
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_255 : BitVec 32 := 1#32
  let v287 : BitVec 32 := Scalar.muli v7 c1_i32_255
  let v288 : BitVec 32 := Scalar.addi v286 v287
  v288.toNat
def k0_off14 (d0 : Dev nD) : Fin 3 → Nat :=
  let c1_i32_260 : BitVec 32 := 1#32
  let c0_i32_262 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v11 : BitVec 32 := Scalar.muli v5 c2048_i32
  ![1, 0, v11.toNat]
def k0_off15 (d0 : Dev nD) : Fin 3 → Nat :=
  let c2_i32_300 : BitVec 32 := 2#32
  let c0_i32_305 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v11 : BitVec 32 := Scalar.muli v5 c2048_i32
  ![2, 0, v11.toNat]
def k0_dev11 (d0 : Dev nD) : Nat :=
  let c0_i32_303 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_302 : BitVec 32 := 2#32
  let v334 : BitVec 32 := Scalar.muli v2 c2_i32_302
  let v335 : BitVec 32 := Scalar.addi c0_i32_303 v334
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_304 : BitVec 32 := 1#32
  let v336 : BitVec 32 := Scalar.muli v7 c1_i32_304
  let v337 : BitVec 32 := Scalar.addi v335 v336
  v337.toNat
def k0_off16 (d0 : Dev nD) : Fin 3 → Nat :=
  let c2_i32_315 : BitVec 32 := 2#32
  let c256_i32_320 : BitVec 32 := 256#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v11 : BitVec 32 := Scalar.muli v5 c2048_i32
  ![2, 256, v11.toNat]
def k0_dev12 (d0 : Dev nD) : Nat :=
  let c0_i32_318 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_317 : BitVec 32 := 2#32
  let v355 : BitVec 32 := Scalar.muli v2 c2_i32_317
  let v356 : BitVec 32 := Scalar.addi c0_i32_318 v355
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_319 : BitVec 32 := 1#32
  let v357 : BitVec 32 := Scalar.muli v7 c1_i32_319
  let v358 : BitVec 32 := Scalar.addi v356 v357
  v358.toNat
def k0_off17 (d0 : Dev nD) : Fin 3 → Nat :=
  let c2_i32_324 : BitVec 32 := 2#32
  let c0_i32_326 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v11 : BitVec 32 := Scalar.muli v5 c2048_i32
  ![2, 0, v11.toNat]
def k0_off18 (d0 : Dev nD) : Fin 3 → Nat :=
  let c3_i32_356 : BitVec 32 := 3#32
  let c0_i32_361 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v11 : BitVec 32 := Scalar.muli v5 c2048_i32
  ![3, 0, v11.toNat]
def k0_dev13 (d0 : Dev nD) : Nat :=
  let c0_i32_359 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_358 : BitVec 32 := 2#32
  let v398 : BitVec 32 := Scalar.muli v2 c2_i32_358
  let v399 : BitVec 32 := Scalar.addi c0_i32_359 v398
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_360 : BitVec 32 := 1#32
  let v400 : BitVec 32 := Scalar.muli v7 c1_i32_360
  let v401 : BitVec 32 := Scalar.addi v399 v400
  v401.toNat
def k0_off19 (d0 : Dev nD) : Fin 3 → Nat :=
  let c3_i32_371 : BitVec 32 := 3#32
  let c256_i32_376 : BitVec 32 := 256#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v11 : BitVec 32 := Scalar.muli v5 c2048_i32
  ![3, 256, v11.toNat]
def k0_dev14 (d0 : Dev nD) : Nat :=
  let c0_i32_374 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_373 : BitVec 32 := 2#32
  let v419 : BitVec 32 := Scalar.muli v2 c2_i32_373
  let v420 : BitVec 32 := Scalar.addi c0_i32_374 v419
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_375 : BitVec 32 := 1#32
  let v421 : BitVec 32 := Scalar.muli v7 c1_i32_375
  let v422 : BitVec 32 := Scalar.addi v420 v421
  v422.toNat
def k0_off20 (d0 : Dev nD) : Fin 3 → Nat :=
  let c3_i32_380 : BitVec 32 := 3#32
  let c0_i32_382 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v11 : BitVec 32 := Scalar.muli v5 c2048_i32
  ![3, 0, v11.toNat]
-- ==== ReferenceIdeal.lean ====
abbrev S4x1024x32x128 : Shape := ⟨4, ![4, 1024, 32, 128]⟩
abbrev S4096x4096 : Shape := ⟨2, ![4096, 4096]⟩
abbrev S4x1024x4096 : Shape := ⟨3, ![4, 1024, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4x1024x32x128, .f32⟩
  | .hbm, ⟨1, _⟩ => ⟨S4096x4096, .f32⟩
  | .hbm, ⟨2, _⟩ => ⟨S4x1024x4096, .f32⟩
  | .hbm, ⟨3, _⟩ => ⟨S4x1024x4096, .f32⟩
  | .hbm, ⟨4, _⟩ => ⟨S4x1024x4096, .bf16⟩
  | _, _ => ⟨S4x1024x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Windows.lean ====
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.ValueLayout

/-!
# Windows of buffers

A window of a buffer is a box of indices. This module gives the set of a window, what a window
reads, and how the buffers of the kernel fall into boxes.
-/

@[expose] public section

noncomputable section

namespace TwoStage

open Idealize.ShloMosaic Idealize.ShloMosaic.TcCoe Idealize.ShloMosaic.ValueIdx
open Cert.KernelIdeal Cert.KernelIdeal.Gen

/-! ## Boxes of indices -/

/-- The indices whose every coordinate lies in the window of extent `sz` at offset `off`. -/
def box {s : Shape} (off sz : Fin s.rank → ℕ) : Finset s.Idx :=
  Finset.univ.filter fun i => ∀ a, off a ≤ (i a).val ∧ (i a).val < off a + sz a

/-- An index is in a box when each coordinate is between the box's first and its last. -/
theorem mem_box {s : Shape} {off sz : Fin s.rank → ℕ} {i : s.Idx} :
    i ∈ box off sz ↔ ∀ a, off a ≤ (i a).val ∧ (i a).val < off a + sz a := by
  simp [box]

/-- The same in three dimensions, -/
theorem mem_box3 {n0 n1 n2 a b c p q r : ℕ} {i : (⟨3, ![n0, n1, n2]⟩ : Shape).Idx} :
    i ∈ box (s := ⟨3, ![n0, n1, n2]⟩) ![a, b, c] ![p, q, r]
      ↔ (a ≤ (i 0).val ∧ (i 0).val < a + p) ∧ (b ≤ (i 1).val ∧ (i 1).val < b + q)
        ∧ (c ≤ (i 2).val ∧ (i 2).val < c + r) := by
  rw [mem_box]
  constructor
  · intro h; exact ⟨h 0, h 1, h 2⟩
  · rintro ⟨h0, h1, h2⟩ a
    fin_cases a
    · exact h0
    · exact h1
    · exact h2

/-- and in two. -/
theorem mem_box2 {n0 n1 a b p q : ℕ} {i : (⟨2, ![n0, n1]⟩ : Shape).Idx} :
    i ∈ box (s := ⟨2, ![n0, n1]⟩) ![a, b] ![p, q]
      ↔ (a ≤ (i 0).val ∧ (i 0).val < a + p) ∧ (b ≤ (i 1).val ∧ (i 1).val < b + q) := by
  rw [mem_box]
  constructor
  · intro h; exact ⟨h 0, h 1⟩
  · rintro ⟨h0, h1⟩ a
    fin_cases a
    · exact h0
    · exact h1

/-- The indices of a rectangle of unit steps are a box. -/
theorem set_unit {s : Shape} (off sz : Fin s.rank → ℕ) (inb) : (Rect.unit (s := s) off sz inb).set = box off sz := by
  ext i; rw [mem_box, Rect.mem_set_unit]

section Window

variable {κ : Kind}

/-- The set of a window of a whole buffer, -/
theorem set_slice_box (b : Ref sig κ) (off off' sz : Fin b.ty.shape.rank → ℕ) (inb) (h) (ho : off = off') :
    ((Memref.whole b).slice (Rect.unit (s := b.ty.shape) off sz inb) h).view.set = box off' sz := by
  subst ho
  exact (View.set_slice_whole b _).trans (set_unit off sz inb)

/-- of the access a load or a store makes there, -/
theorem set_access_box (b : Ref sig κ) (off off' sz : Fin b.ty.shape.rank → ℕ) (inb) (ho : off = off') :
    ((Memref.whole b).access (Rect.unit (s := b.ty.shape) off sz inb)).set = box off' sz := by
  subst ho
  exact (View.set_slice_whole b _).trans (set_unit off sz inb)

/-- and of the window with its unit axes dropped. -/
theorem set_squeeze_box (b : Ref sig κ) (off off' sz : Fin b.ty.shape.rank → ℕ) (inb) (h) {s' : Shape} (hq)
    (ho : off = off') :
    (((Memref.whole b).slice (Rect.unit (s := b.ty.shape) off sz inb) h).squeeze s' hq).view.set = box off' sz := by
  rw [Memref.set_view_squeeze, set_slice_box b off off' sz inb h ho]

end Window

section Reads

variable {κ : Kind} {sp : Space} {e : EltTy} {Val : EltTy → Type}

/-- What a window of a three-axis memref reads. -/
theorem read_slice3 {n0 n1 n2 p0 p1 p2 : ℕ} (M : Memref sig κ sp ⟨3, ![n0, n1, n2]⟩ e) (off : Fin 3 → ℕ)
    (inb : ∀ a, off a + (⟨3, ![p0, p1, p2]⟩ : Shape).size a ≤ (⟨3, ![n0, n1, n2]⟩ : Shape).size a) (f : M.view.ty.Contents Val)
    (j : (⟨3, ![p0, p1, p2]⟩ : Shape).Idx) (k : (⟨3, ![n0, n1, n2]⟩ : Shape).Idx)
    (hk : ∀ a, (k a).val = off a + (j a).val) :
    (M.access (Rect.unit (s := ⟨3, ![n0, n1, n2]⟩) off (⟨3, ![p0, p1, p2]⟩ : Shape).size inb)).read Val f j = M.view.read Val f k := by
  have h : (Rect.unit (s := ⟨3, ![n0, n1, n2]⟩) off (⟨3, ![p0, p1, p2]⟩ : Shape).size inb).emb j = k := by
    funext a
    apply Fin.ext
    rw [Rect.emb_apply, hk a]
    simp [Rect.unit]
  show _root_.cast _ (f (M.view.emb _)) = _root_.cast _ (f (M.view.emb _))
  rw [h]

/-- What a window of a two-axis memref reads. -/
theorem read_slice2 {n0 n1 p0 p1 : ℕ} (M : Memref sig κ sp ⟨2, ![n0, n1]⟩ e) (off : Fin 2 → ℕ)
    (inb : ∀ a, off a + (⟨2, ![p0, p1]⟩ : Shape).size a ≤ (⟨2, ![n0, n1]⟩ : Shape).size a) (f : M.view.ty.Contents Val)
    (j : (⟨2, ![p0, p1]⟩ : Shape).Idx) (k : (⟨2, ![n0, n1]⟩ : Shape).Idx)
    (hk : ∀ a, (k a).val = off a + (j a).val) :
    (M.access (Rect.unit (s := ⟨2, ![n0, n1]⟩) off (⟨2, ![p0, p1]⟩ : Shape).size inb)).read Val f j = M.view.read Val f k := by
  have h : (Rect.unit (s := ⟨2, ![n0, n1]⟩) off (⟨2, ![p0, p1]⟩ : Shape).size inb).emb j = k := by
    funext a
    apply Fin.ext
    rw [Rect.emb_apply, hk a]
    simp [Rect.unit]
  show _root_.cast _ (f (M.view.emb _)) = _root_.cast _ (f (M.view.emb _))
  rw [h]

/-- What a window one thick on its first axis, that axis dropped, reads. -/
theorem read_squeeze3 {n0 n1 n2 p1 p2 : ℕ} (M : Memref sig κ sp ⟨3, ![n0, n1, n2]⟩ e) (off : Fin 3 → ℕ)
    (inb : ∀ a, off a + (⟨3, ![1, p1, p2]⟩ : Shape).size a ≤ (⟨3, ![n0, n1, n2]⟩ : Shape).size a)
    (h) (hq : (⟨3, ![1, p1, p2]⟩ : Shape).Squeezes ⟨2, ![p1, p2]⟩) (f : M.view.ty.Contents Val)
    (x : Fin p1) (y : Fin p2) (k : (⟨3, ![n0, n1, n2]⟩ : Shape).Idx)
    (h0 : (k 0).val = off 0) (h1 : (k 1).val = off 1 + x.val) (h2 : (k 2).val = off 2 + y.val) :
    ((M.slice (Rect.unit (s := ⟨3, ![n0, n1, n2]⟩) off (⟨3, ![1, p1, p2]⟩ : Shape).size inb) h).squeeze ⟨2, ![p1, p2]⟩ hq).view.read Val f (ix2 x y)
      = M.view.read Val f k := by
  refine Eq.trans ?_ (read_slice3 (p0 := 1) M off inb f (ix3 ⟨0, Nat.one_pos⟩ x y) k ?_)
  · show _root_.cast _ (f (M.view.emb ((Rect.unit (s := ⟨3, ![n0, n1, n2]⟩) off (⟨3, ![1, p1, p2]⟩ : Shape).size inb).emb (Shape.reshapeEquiv _ (ix2 x y)))))
      = _root_.cast _ (f (M.view.emb ((Rect.unit (s := ⟨3, ![n0, n1, n2]⟩) off (⟨3, ![1, p1, p2]⟩ : Shape).size inb).emb _)))
    rw [reshapeEquiv_ix2_1ab]
  · intro a
    fin_cases a
    · exact h0
    · exact h1
    · exact h2

end Reads

/-- The coordinates of an index, given by numbers taken modulo the extents. -/
def at3 (n0 n1 n2 : ℕ) [NeZero n0] [NeZero n1] [NeZero n2] (a b c : ℕ) : (⟨3, ![n0, n1, n2]⟩ : Shape).Idx :=
  ix3 (Fin.ofNat n0 a) (Fin.ofNat n1 b) (Fin.ofNat n2 c)
/-- The same for two coordinates. -/
def at2 (n0 n1 : ℕ) [NeZero n0] [NeZero n1] (a b : ℕ) : (⟨2, ![n0, n1]⟩ : Shape).Idx :=
  ix2 (Fin.ofNat n0 a) (Fin.ofNat n1 b)

section At

variable {n0 n1 n2 : ℕ} [NeZero n0] [NeZero n1] [NeZero n2] (a b c : ℕ)

/-- The three coordinates of such an index, -/
@[simp] theorem at3_0 : ((at3 n0 n1 n2 a b c) 0).val = a % n0 := rfl
/-- the second, -/
@[simp] theorem at3_1 : ((at3 n0 n1 n2 a b c) 1).val = b % n1 := rfl
/-- the third; -/
@[simp] theorem at3_2 : ((at3 n0 n1 n2 a b c) 2).val = c % n2 := rfl
/-- the two of an index with two, -/
@[simp] theorem at2_0 : ((at2 n0 n1 a b) 0).val = a % n0 := rfl
/-- the second. -/
@[simp] theorem at2_1 : ((at2 n0 n1 a b) 1).val = b % n1 := rfl

/-- Numbers that agree modulo the extents give the same index. -/
theorem at2_congr {a' b' : ℕ} (ha : a % n0 = a' % n0) (hb : b % n1 = b' % n1) : at2 n0 n1 a b = at2 n0 n1 a' b' := by
  show ix2 _ _ = ix2 _ _
  rw [show Fin.ofNat n0 a = Fin.ofNat n0 a' from Fin.ext ha, show Fin.ofNat n1 b = Fin.ofNat n1 b' from Fin.ext hb]

end At

/-- Two indices with the same three coordinates are equal, -/
theorem ext3 {n0 n1 n2 : ℕ} {i j : (⟨3, ![n0, n1, n2]⟩ : Shape).Idx} (h0 : (i 0).val = (j 0).val)
    (h1 : (i 1).val = (j 1).val) (h2 : (i 2).val = (j 2).val) : i = j := by
  funext a
  apply Fin.ext
  fin_cases a
  · exact h0
  · exact h1
  · exact h2

/-- and two with the same two. -/
theorem ext2 {n0 n1 : ℕ} {i j : (⟨2, ![n0, n1]⟩ : Shape).Idx} (h0 : (i 0).val = (j 0).val)
    (h1 : (i 1).val = (j 1).val) : i = j := by
  funext a
  apply Fin.ext
  fin_cases a
  · exact h0
  · exact h1

/-! ## Reading a window at the index it stands for -/

section ReadAt

variable {κ : Kind} {sp : Space} {e : EltTy} {Val : EltTy → Type} {n0 n1 n2 p0 p1 p2 : ℕ} [NeZero n0] [NeZero n1] [NeZero n2]

/-- Reading a window of a buffer at an index is reading the buffer at that index moved by the window's offsets, -/
theorem read_at3 (M : Memref sig κ sp ⟨3, ![n0, n1, n2]⟩ e) (off : Fin 3 → ℕ)
    (inb : ∀ a, off a + (⟨3, ![p0, p1, p2]⟩ : Shape).size a ≤ (⟨3, ![n0, n1, n2]⟩ : Shape).size a) (f : M.view.ty.Contents Val)
    (j : (⟨3, ![p0, p1, p2]⟩ : Shape).Idx) :
    (M.access (Rect.unit (s := ⟨3, ![n0, n1, n2]⟩) off (⟨3, ![p0, p1, p2]⟩ : Shape).size inb)).read Val f j
      = M.view.read Val f (at3 n0 n1 n2 (off 0 + (j 0).val) (off 1 + (j 1).val) (off 2 + (j 2).val)) := by
  have b0 : off 0 + p0 ≤ n0 := inb 0
  have b1 : off 1 + p1 ≤ n1 := inb 1
  have b2 : off 2 + p2 ≤ n2 := inb 2
  have h0 : (j 0).val < p0 := (j 0).isLt
  have h1 : (j 1).val < p1 := (j 1).isLt
  have h2 : (j 2).val < p2 := (j 2).isLt
  refine read_slice3 M off inb f j _ fun a => ?_
  fin_cases a
  · exact Nat.mod_eq_of_lt (by omega)
  · exact Nat.mod_eq_of_lt (by omega)
  · exact Nat.mod_eq_of_lt (by omega)

/-- in two dimensions as well, -/
theorem read_at2 (M : Memref sig κ sp ⟨2, ![n0, n1]⟩ e) (off : Fin 2 → ℕ)
    (inb : ∀ a, off a + (⟨2, ![p0, p1]⟩ : Shape).size a ≤ (⟨2, ![n0, n1]⟩ : Shape).size a) (f : M.view.ty.Contents Val)
    (j : (⟨2, ![p0, p1]⟩ : Shape).Idx) :
    (M.access (Rect.unit (s := ⟨2, ![n0, n1]⟩) off (⟨2, ![p0, p1]⟩ : Shape).size inb)).read Val f j
      = M.view.read Val f (at2 n0 n1 (off 0 + (j 0).val) (off 1 + (j 1).val)) := by
  have b0 : off 0 + p0 ≤ n0 := inb 0
  have b1 : off 1 + p1 ≤ n1 := inb 1
  have h0 : (j 0).val < p0 := (j 0).isLt
  have h1 : (j 1).val < p1 := (j 1).isLt
  refine read_slice2 M off inb f j _ fun a => ?_
  fin_cases a
  · exact Nat.mod_eq_of_lt (by omega)
  · exact Nat.mod_eq_of_lt (by omega)

/-- and for one slab of a buffer of slabs. -/
theorem read_at_sq (M : Memref sig κ sp ⟨3, ![n0, n1, n2]⟩ e) (off : Fin 3 → ℕ)
    (inb : ∀ a, off a + (⟨3, ![1, p1, p2]⟩ : Shape).size a ≤ (⟨3, ![n0, n1, n2]⟩ : Shape).size a)
    (h) (hq : (⟨3, ![1, p1, p2]⟩ : Shape).Squeezes ⟨2, ![p1, p2]⟩) (f : M.view.ty.Contents Val) (j : (⟨2, ![p1, p2]⟩ : Shape).Idx) :
    ((M.slice (Rect.unit (s := ⟨3, ![n0, n1, n2]⟩) off (⟨3, ![1, p1, p2]⟩ : Shape).size inb) h).squeeze ⟨2, ![p1, p2]⟩ hq).view.read Val f j
      = M.view.read Val f (at3 n0 n1 n2 (off 0) (off 1 + (j 0).val) (off 2 + (j 1).val)) := by
  have b0 : off 0 + 1 ≤ n0 := inb 0
  have b1 : off 1 + p1 ≤ n1 := inb 1
  have b2 : off 2 + p2 ≤ n2 := inb 2
  have h1 : (j 0).val < p1 := (j 0).isLt
  have h2 : (j 1).val < p2 := (j 1).isLt
  refine (congrArg _ (eq_ix2 j)).trans ?_
  exact read_squeeze3 M off inb h hq f (j 0) (j 1) _ (Nat.mod_eq_of_lt (by omega)) (Nat.mod_eq_of_lt (by omega)) (Nat.mod_eq_of_lt (by omega))

end ReadAt

attribute [irreducible] at2 at3

/-! ## Writing a window -/

/-- Contents that read `w` through a view are what writing `w` through it leaves on the view's set. -/
theorem write_eq_on {κ : Kind} {sp : Space} {s : Shape} {e : EltTy} {Val : EltTy → Type} (v : View sig κ sp s e)
    (f G : v.ty.Contents Val) (w : s.Idx → Val e) (h : v.read Val G = w) :
    ∀ i ∈ v.set, v.write Val f w Finset.univ i = G i := by
  intro i hi
  obtain ⟨j, -, rfl⟩ := Finset.mem_map.mp hi
  rw [View.write_emb_of_mem (v := v) f w (Finset.mem_univ j), ← h, View.read_apply, cast_cast, cast_eq]

/-! ## The boxes of the kernel's buffers -/

/-- Slab `b` of a buffer of four slabs of 512 rows. -/
abbrev slab (b : ℕ) : Finset S4x512x2048.Idx := box (s := S4x512x2048) ![b, 0, 0] ![1, 512, 2048]
/-- Half-slab `i`: rows `256 (i % 2)` up, of slab `i / 2`. -/
abbrev rows (i : ℕ) : Finset S4x512x2048.Idx := box (s := S4x512x2048) ![i / 2, 256 * (i % 2), 0] ![1, 256, 2048]
/-- Slab `b` of the result, in column half `h`. -/
abbrev oslab (h b : ℕ) : Finset S4x512x4096.Idx := box (s := S4x512x4096) ![b, 0, 2048 * h] ![1, 512, 2048]
/-- Half-slab `i` of the result, in column half `h`. -/
abbrev orows (h i : ℕ) : Finset S4x512x4096.Idx := box (s := S4x512x4096) ![i / 2, 256 * (i % 2), 2048 * h] ![1, 256, 2048]
/-- Slot `p` of the weights' staging buffer. -/
abbrev slot (p : ℕ) : Finset S2x512x2048.Idx := box (s := S2x512x2048) ![p, 0, 0] ![1, 512, 2048]
/-- Rows `512 j` up of the converted weights. -/
abbrev wrows (j : ℕ) : Finset S2048x2048.Idx := box (s := S2048x2048) ![512 * j, 0] ![512, 2048]

/-- The two halves of a slab don't meet, -/
theorem rows_disj (i : ℕ) : Disjoint (rows (2 * i)) (rows (2 * i + 1)) := by
  rw [Finset.disjoint_left]; intro k h1 h2
  rw [mem_box3] at h1 h2
  omega
/-- and make it up. -/
theorem rows_union (i : ℕ) : rows (2 * i) ∪ rows (2 * i + 1) = slab i := by
  ext k
  rw [Finset.mem_union, mem_box3, mem_box3, mem_box3]
  have h1 : (k 1).val < 512 := (k 1).isLt
  omega
/-- A half-slab lies in its slab. -/
theorem rows_sub (i : ℕ) : rows i ⊆ slab (i / 2) := by
  intro j hj
  rw [mem_box3] at hj ⊢
  omega
/-- The two halves of a slab of the result's column half don't meet, -/
theorem orows_disj (h i : ℕ) : Disjoint (orows h (2 * i)) (orows h (2 * i + 1)) := by
  rw [Finset.disjoint_left]; intro k h1 h2
  rw [mem_box3] at h1 h2
  omega
/-- and make it up. -/
theorem orows_union (h i : ℕ) : orows h (2 * i) ∪ orows h (2 * i + 1) = oslab h i := by
  ext k
  rw [Finset.mem_union, mem_box3, mem_box3, mem_box3]
  have h1 : (k 1).val < 512 := (k 1).isLt
  omega

/-- Different slabs don't meet, -/
theorem slab_disj : ∀ b ∈ (Finset.univ : Finset (Fin 4)), ∀ b' ∈ (Finset.univ : Finset (Fin 4)), b ≠ b' →
    Disjoint (slab b.val) (slab b'.val) := by
  intro b _ b' _ hb
  rw [Finset.disjoint_left]; intro k h1 h2
  rw [mem_box3] at h1 h2
  exact hb (Fin.ext (by omega))
/-- and the four slabs are the whole buffer. -/
theorem slab_cover : (Finset.univ : Finset (Fin 4)).biUnion (fun b => slab b.val) = Finset.univ := by
  ext k
  have h0 : (k 0).val < 4 := (k 0).isLt
  have h1 : (k 1).val < 512 := (k 1).isLt
  have h2 : (k 2).val < 2048 := (k 2).isLt
  simp only [Finset.mem_biUnion, Finset.mem_univ, true_and, iff_true]
  exact ⟨⟨(k 0).val, h0⟩, mem_box3.mpr (by simp only; omega)⟩

/-- The two slots of the staging buffer don't meet, -/
theorem slot_disj : Disjoint (slot 0) (slot 1) := by
  rw [Finset.disjoint_left]; intro k h1 h2
  rw [mem_box3] at h1 h2
  omega
/-- and are the whole of it. -/
theorem slot_cover : slot 0 ∪ slot 1 = Finset.univ := by
  ext k
  have h0 : (k 0).val < 2 := (k 0).isLt
  have h1 : (k 1).val < 512 := (k 1).isLt
  have h2 : (k 2).val < 2048 := (k 2).isLt
  rw [Finset.mem_union, mem_box3, mem_box3]
  simp only [Finset.mem_univ, iff_true]
  omega

/-- Different quarters of the weights don't meet, -/
theorem wrows_disj : ∀ b ∈ (Finset.univ : Finset (Fin 4)), ∀ b' ∈ (Finset.univ : Finset (Fin 4)), b ≠ b' →
    Disjoint (wrows b.val) (wrows b'.val) := by
  intro b _ b' _ hb
  rw [Finset.disjoint_left]; intro k h1 h2
  rw [mem_box2] at h1 h2
  exact hb (Fin.ext (by omega))
/-- and the four quarters are the whole of them. -/
theorem wrows_cover : (Finset.univ : Finset (Fin 4)).biUnion (fun b => wrows b.val) = Finset.univ := by
  ext k
  have h0 : (k 0).val < 2048 := (k 0).isLt
  have h1 : (k 1).val < 2048 := (k 1).isLt
  simp only [Finset.mem_biUnion, Finset.mem_univ, true_and, iff_true]
  exact ⟨⟨(k 0).val / 512, by omega⟩, mem_box2.mpr (by simp only; omega)⟩

/-- The pieces of the result: its four slabs in one column half, its four in the other. -/
abbrev opiece (y : ℕ) (x : Fin 4 × Bool) : Finset S4x512x4096.Idx := oslab (if x.2 then 1 - y else y) x.1.val

/-- Different pieces of the result don't meet, -/
theorem opiece_disj {y : ℕ} (hy : y < 2) : ∀ x ∈ (Finset.univ : Finset (Fin 4 × Bool)), ∀ x' ∈ (Finset.univ : Finset (Fin 4 × Bool)), x ≠ x' →
    Disjoint (opiece y x) (opiece y x') := by
  rintro ⟨b, h⟩ _ ⟨b', h'⟩ _ hb
  rw [Finset.disjoint_left]; intro k h1 h2
  rw [mem_box3] at h1 h2
  apply hb
  have hb : b = b' := by
    have h3 := h1.1; have h4 := h2.1
    simp only at h3 h4
    exact Fin.ext (by omega)
  subst hb
  cases h <;> cases h' <;> simp only [Bool.false_eq_true, if_true, if_false] at h1 h2 <;> first | rfl | (exfalso; omega)
/-- and all the pieces are the whole result. -/
theorem opiece_cover {y : ℕ} (hy : y < 2) : (Finset.univ : Finset (Fin 4 × Bool)).biUnion (opiece y) = Finset.univ := by
  ext k
  have h0 : (k 0).val < 4 := (k 0).isLt
  have h1 : (k 1).val < 512 := (k 1).isLt
  have h2 : (k 2).val < 4096 := (k 2).isLt
  simp only [Finset.mem_biUnion, Finset.mem_univ, true_and, iff_true]
  by_cases h : (k 2).val / 2048 = y
  · exact ⟨⟨⟨(k 0).val, h0⟩, false⟩, mem_box3.mpr (by simp only [Bool.false_eq_true, if_false]; omega)⟩
  · exact ⟨⟨⟨(k 0).val, h0⟩, true⟩, mem_box3.mpr (by simp only [if_true]; omega)⟩

end TwoStage
-- ==== Proof.Protocol.lean ====
module

public import proofs.«01_k».proof.Proof.Windows
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.Transfers
public import Idealize.ShloMosaic.Lib.StableHlo
public import Idealize.ShloMosaic.Lib.Tactic
public import Idealize.ShloMosaic.PureOps

/-!
# The protocol of the four devices

Every device talks to two peers: the device in the other row of the mesh (`xp`), with which it
exchanges partial products of the rows the other one owns, and the device in the other column
(`yp`), with which it exchanges the finished columns. This module says what every buffer holds at
every stage, which resource travels with which semaphore, and what each device owes.
-/

@[expose] public section

noncomputable section

namespace TwoStage

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

/-! ## The mesh -/

/-- The row of a device in the mesh. -/
abbrev row (c : Dev nD) : ℕ := c.val / 2
/-- The column of a device in the mesh. -/
abbrev col (c : Dev nD) : ℕ := c.val % 2
/-- The device in the other row, same column. -/
def xp (c : Dev nD) : Dev nD := ⟨(col c + 2) - 2 * row c, by revert c; decide⟩
/-- The device in the other column, same row. -/
def yp (c : Dev nD) : Dev nD := ⟨(2 * row c + 1) - col c, by revert c; decide⟩

/-- The peer in the other row of the peer in the other row is the device itself, -/
theorem xp_xp (c : Dev nD) : xp (xp c) = c := by revert c; decide
/-- and so for columns. -/
theorem yp_yp (c : Dev nD) : yp (yp c) = c := by revert c; decide
/-- The peer in the other row has the same column; -/
theorem col_xp (c : Dev nD) : col (xp c) = col c := by revert c; decide
/-- the peer in the other column has the other column. -/
theorem col_yp (c : Dev nD) : col (yp c) = 1 - col c := by revert c; decide
/-- The peer in the other row has the other row; -/
theorem row_xp (c : Dev nD) : row (xp c) = 1 - row c := by revert c; decide
/-- the peer in the other column has the same row. -/
theorem row_yp (c : Dev nD) : row (yp c) = row c := by revert c; decide
/-- There are two rows, -/
theorem row_lt (c : Dev nD) : row c < 2 := by revert c; decide
/-- and two columns. -/
theorem col_lt (c : Dev nD) : col c < 2 := by revert c; decide

/-- Pairing every device with its peer, as a permutation. -/
def xEquiv : Dev nD ≃ Dev nD := ⟨xp, xp, xp_xp, xp_xp⟩
/-- Pairing every device with its peer in the other column, as a permutation. -/
def yEquiv : Dev nD ≃ Dev nD := ⟨yp, yp, yp_yp, yp_yp⟩

/-- The device in column `h` of the row of `c`. -/
def inCol (c : Dev nD) (h : ℕ) : Dev nD := ⟨(2 * row c + h) % 4, Nat.mod_lt _ (by decide)⟩
/-- The device in a device's own column of its row is itself. -/
theorem inCol_col (c : Dev nD) : inCol c (col c) = c := by revert c; decide
/-- Two devices of one row name the same devices of it by their columns. -/
theorem inCol_yp (c : Dev nD) (h : ℕ) : inCol (yp c) h = inCol c h :=
  Fin.ext (by show (2 * row (yp c) + h) % 4 = (2 * row c + h) % 4; rw [row_yp])

/-! ## Contents -/

variable {F : FTy → Type} [FloatOps F]

section Contents

variable (A : Dev nD → Vec F S4x1024x2048 .f32) (B : Dev nD → Vec F S2048x4096 .f32)

/-- Slot `j % 2` of the staging buffer, once it holds weight rows `512 j` up of column half `col c`. -/
def WS (c : Dev nD) (j : ℕ) : Vec F S2x512x2048 .f32 := fun i => B c (at2 2048 4096 (512 * j + (i 1).val) (2048 * col c + (i 2).val))
/-- The converted weights of column half `col c`. -/
def WB (c : Dev nD) : FVec F S2048x2048 .bf16 :=
  truncf (s := S2048x2048) .bf16 (fun i => B c (at2 2048 4096 (i 0).val (2048 * col c + (i 1).val))) bitsLt_bf16_f32
/-- Two slabs of activations: the rows that row `r` of the mesh owns, slabs `2 m` and `2 m + 1`. -/
def OT (c : Dev nD) (r m : ℕ) : Vec F S2x512x2048 .f32 := fun i => A c (at3 4 1024 2048 (2 * m + (i 0).val) (512 * r + (i 1).val) (i 2).val)
/-- The product of two slabs with the converted weights. -/
def PR (c : Dev nD) (r m : ℕ) : FVec F S1024x2048 .f32 := k0_pay6 (OT A c r m) (WB B c)
/-- What a device computes for its peer in the other row. -/
def XV (c : Dev nD) (m : ℕ) : FVec F S1024x2048 .bf16 := truncf .bf16 (PR A B c (1 - row c) m) bitsLt_bf16_f32
/-- What it keeps: its own product plus what the peer in the other row computed for it. -/
def YV (c : Dev nD) (m : ℕ) : FVec F S1024x2048 .bf16 :=
  truncf .bf16 (addf (PR A B c (row c) m) (extf .f32 (XV A B (xp c) m) bitsLt_bf16_f32)) bitsLt_bf16_f32
/-- The send buffer in the first exchange, -/
def SX (c : Dev nD) : FVec F S4x512x2048 .bf16 := fun i => XV A B c ((i 0).val / 2) (at2 1024 2048 (512 * ((i 0).val % 2) + (i 1).val) (i 2).val)
/-- and in the second. -/
def SY (c : Dev nD) : FVec F S4x512x2048 .bf16 := fun i => YV A B c ((i 0).val / 2) (at2 1024 2048 (512 * ((i 0).val % 2) + (i 1).val) (i 2).val)
/-- The result: column half `h` is what the device of that column finished. -/
def OUT (c : Dev nD) : FVec F S4x512x4096 .bf16 := fun i => YV A B (inCol c ((i 2).val / 2048)) ((i 0).val / 2)
  (at2 1024 2048 (512 * ((i 0).val % 2) + (i 1).val) ((i 2).val % 2048))

/-- The two devices of a row end with the same result. -/
theorem OUT_yp (c : Dev nD) : OUT A B (yp c) = OUT A B c := by
  funext i; unfold OUT; rw [inCol_yp]

end Contents

/-! ## Semaphores and cells -/

/-- The resource of the rounds: every duty is told by a truth value. -/
abbrev UB : Type := Rounds.URounds (GSem nD τ sig) Bool
/-- All of the protocol's resources. -/
abbrev UU : Type := UR sig nD τ × (UB × Counters)

local notation "𝕄" => MT nD τ sig Unit (Elt F) ℕ UU ℕ

/-- Where the resource of the program's state is among them, -/
abbrev EP : Emb (UR sig nD τ) (MT nD τ sig Unit (Elt F) ℕ UU ℕ) := embL
/-- the rounds', -/
abbrev ER : Emb UB (MT nD τ sig Unit (Elt F) ℕ UU ℕ) := (Emb.inl : Emb UB (UB × Counters)).trans embR
/-- and the counters'. -/
abbrev EC : UEmb Counters (MT nD τ sig Unit (Elt F) ℕ UU ℕ) := countersEmb

/-- The barrier's semaphore. -/
abbrev barS : Sem sig := (SemArray.scalar (sig.barrier 0 rfl) : Sems sig S_).sem
/-- Completion of sending slab `b` across rows; -/
def sxs (b : Fin 4) : DmaSem sig := ⟨b.val, by have := b.isLt; show b.val < 31; omega⟩
/-- completion of receiving slab `b` from across rows; -/
def rxs (b : Fin 4) : DmaSem sig := ⟨4 + b.val, by have := b.isLt; show 4 + b.val < 31; omega⟩
/-- completion of sending half-slab `i` across columns; -/
def sys (i : Fin 8) : DmaSem sig := ⟨8 + i.val, by have := i.isLt; show 8 + i.val < 31; omega⟩
/-- completion of receiving half-slab `i` from across columns. -/
def rys (i : Fin 8) : DmaSem sig := ⟨16 + i.val, by have := i.isLt; show 16 + i.val < 31; omega⟩
/-- The semaphores of the copies inside a device: 24, 25 weights, 26 activations, 27 to 30 result slabs. -/
def los (k : Fin 7) : DmaSem sig := ⟨24 + k.val, by have := k.isLt; show 24 + k.val < 31; omega⟩

/-- The barrier's cell of device `c`, -/
abbrev barC (c : Dev nD) : GSem nD τ sig := ((c : Thread nD τ), .reg barS)
/-- and the cell of its `k`-th transfer semaphore. -/
abbrev dC (c : Dev nD) (k : DmaSem sig) : GSem nD τ sig := ((c : Thread nD τ), .dma k)

/-- Slab `b` of the send buffer, -/
abbrev sdW (b : Fin 4) : Memref sig .tc .vmem S512x2048 .bf16 :=
  ((Memref.whole cc0_scratch3).slice (Rect.unit (s := S4x512x2048) ![b.val, 0, 0] S1x512x2048.size (by have := b.isLt; intro a; fin_cases a <;> simp <;> omega)) (fun _ => rfl)).squeeze S512x2048 squeezes_S1x512x2048_S512x2048
/-- and half-slab `i` of it. -/
abbrev sdR (i : Fin 8) : Memref sig .tc .vmem S256x2048 .bf16 :=
  ((Memref.whole cc0_scratch3).slice (Rect.unit (s := S4x512x2048) ![i.val / 2, 256 * (i.val % 2), 0] S1x256x2048.size (by have := i.isLt; intro a; fin_cases a <;> simp <;> omega)) (fun _ => rfl)).squeeze S256x2048 squeezes_S1x256x2048_S256x2048

/-- The units that a transfer of a slab credits. -/
abbrev N1 : ℕ := (sdW 0).view.dmaCredit
/-- The units that a transfer of a half-slab credits. -/
abbrev N2 : ℕ := (sdR 0).view.dmaCredit
/-- A transfer of a slab credits some units, -/
theorem N1_pos : 0 < N1 := View.dmaCredit_pos _ (by decide)
/-- and so does one of a half-slab. -/
theorem N2_pos : 0 < N2 := View.dmaCredit_pos _ (by decide)

/-- Buffer `b` of device `c` held on `S`. -/
abbrev pt (c : Dev nD) (b : Ref sig .tc) (S : Finset (Idx ((c : Thread nD τ).loc b))) (q : PosShare TreeShare) (f : Buf (Elt F) ((c : Thread nD τ).loc b)) : sProp 𝕄 :=
  ((c : Thread nD τ).loc b) ↦[S]{q} f

/-! ## What travels -/

section Payloads

variable (A : Dev nD → Vec F S4x1024x2048 .f32) (B : Dev nD → Vec F S2048x4096 .f32)

/-- The receive buffer of device `d`, ready for its peer to fill slab `b`; -/
def rxSlab (d : Dev nD) (b : Fin 4) : sProp 𝕄 :=
  iprop((∃ f, pt d cc0_scratch4 (slab b.val) fullShare f) ∗ reached ER (dC d (rxs b)) 0)
/-- the other column half of its result, ready for the peer to fill half-slab `i`. -/
def outRows (d : Dev nD) (i : Fin 8) : sProp 𝕄 :=
  iprop((∃ f, pt d main_v2 (orows (1 - col d) i.val) fullShare f) ∗ reached ER (dC d (rys i)) 0)
/-- With the barrier unit of the peer in the other row: its receive buffer. -/
def barX (c : Dev nD) : sProp 𝕄 := bigSep Finset.univ fun b : Fin 4 => rxSlab (xp c) b
/-- With the barrier unit of the peer in the other column: the half of its result that this device fills. -/
def barY (c : Dev nD) : sProp 𝕄 := bigSep Finset.univ fun i : Fin 8 => outRows (yp c) i

/-- What completes with the `k`-th transfer semaphore. -/
def dpay (c : Dev nD) (k : ℕ) : sProp 𝕄 :=
  if k < 4 then pt c cc0_scratch3 (slab k) fullShare (SX A B c)
  else if k < 8 then pt c cc0_scratch4 (slab (k - 4)) fullShare (SX A B (xp c))
  else if k < 16 then pt c cc0_scratch3 (rows (k - 8)) fullShare.left (SY A B c)
  else if k < 24 then pt c main_v2 (orows (1 - col c) (k - 16)) fullShare (OUT A B c)
  else iprop(emp)

/-- The units the `k`-th transfer semaphore is credited. -/
def damt (k : ℕ) : ℕ := if k < 8 then N1 else N2
/-- Every transfer semaphore is credited some units. -/
theorem damt_pos (k : ℕ) : 0 < damt k := by
  unfold damt; split
  · exact N1_pos
  · exact N2_pos

/-- One round on every barrier, of one unit from each peer; one round of one transfer on each of the first 24 transfer semaphores. -/
def sched : Rounds.Schedule (GSem nD τ sig) Bool 𝕄 where
  duties g r := if r = 0 ∧ g.1.2 = .tc then (match g.2 with | .reg _ => Finset.univ | .dma k => if k.val < 24 then {false} else ∅) else ∅
  unitless _ := False
  amount g _ _ := match g.2 with | .reg _ => 1 | .dma k => damt k.val
  payload g _ d := match g.2 with | .reg _ => (if d then barY g.1.1 else barX g.1.1) | .dma k => dpay A B g.1.1 k.val
  amount_pos g _ _ _ := by
    rcases g.2 with _ | k
    · exact Nat.one_pos
    · exact damt_pos k.val

/-- What a duty hands over can be kept by an invariant. -/
instance sched_storable (g : GSem nD τ sig) (r : ℕ) (d : Bool) :
    BI.Storable (upEmb : UEmb _ 𝕄) ((sched A B).payload g r d) := by
  obtain ⟨t, s⟩ := g
  rcases s with s | k
  · show BI.Storable upEmb (if d then barY t.1 else barX t.1)
    unfold barX barY rxSlab outRows
    split <;> infer_instance
  · show BI.Storable upEmb (dpay A B t.1 k.val)
    unfold dpay
    (repeat' split) <;> infer_instance

variable (c : Dev nD)

/-- A barrier has both duties in its round, -/
theorem duties_bar : (sched A B).duties (barC c) 0 = Finset.univ := by dsimp only [sched]; exact if_pos ⟨rfl, rfl⟩
/-- a transfer semaphore has one, -/
theorem duties_dma (k : DmaSem sig) (hk : k.val < 24) : (sched A B).duties (dC c k) 0 = {false} := by
  dsimp only [sched]; rw [if_pos ⟨rfl, rfl⟩, if_pos hk]
/-- and there is no later round. -/
theorem duties_later (g : GSem nD τ sig) : ∀ r, 1 ≤ r → (sched A B).duties g r = ∅ :=
  fun r hr => by dsimp only [sched]; rw [if_neg (fun h => by omega)]
/-- Each duty of a barrier is of one unit, -/
theorem amount_bar (d : Bool) : (sched A B).amount (barC c) 0 d = 1 := rfl
/-- and a transfer semaphore's of its transfer's units. -/
theorem amount_dma (k : DmaSem sig) (d : Bool) : (sched A B).amount (dC c k) 0 d = damt k.val := rfl
/-- What a barrier's duty hands over, -/
theorem payload_bar (d : Bool) : (sched A B).payload (barC c) 0 d = if d then barY c else barX c := rfl
/-- and what a transfer semaphore's does. -/
theorem payload_dma (k : DmaSem sig) (d : Bool) : (sched A B).payload (dC c k) 0 d = dpay A B c k.val := rfl
/-- A barrier expects two units, -/
theorem expect_bar : (sched A B).expect (barC c) 0 = 2 := by
  unfold Schedule.expect Schedule.amountOf; rw [duties_bar]; rfl
/-- and a transfer semaphore those of one transfer. -/
theorem expect_dma (k : DmaSem sig) (hk : k.val < 24) : (sched A B).expect (dC c k) 0 = damt k.val := by
  unfold Schedule.expect Schedule.amountOf; rw [duties_dma A B c k hk, Finset.sum_singleton, amount_dma]
/-- What a wait for a whole transfer receives, -/
theorem rest_dma (k : DmaSem sig) (hk : k.val < 24) :
    bigSep ((sched A B).duties (dC c k) 0 \ ∅) (fun u => (sched A B).payload (dC c k) 0 u) = dpay A B c k.val := by
  rw [Finset.sdiff_empty, duties_dma A B c k hk, bigSep_singleton, payload_dma]
/-- and what a wait for the barrier does: both peers' buffers. -/
theorem rest_bar :
    bigSep ((sched A B).duties (barC c) 0 \ ∅) (fun u => (sched A B).payload (barC c) 0 u) ⊢ iprop(barX c ∗ barY c) := by
  rw [Finset.sdiff_empty, duties_bar, bigSep_univ_eq_bigSepL [false, true] (by decide) (by decide)]
  exact Entails.of_eq rfl

/-- What completes with sending a slab: the slab of the send buffer; -/
theorem dpay_sx (b : Fin 4) : dpay A B c (sxs b).val = pt c cc0_scratch3 (slab b.val) fullShare (SX A B c) := by
  unfold dpay; rw [if_pos (by exact b.isLt)]; rfl
/-- with receiving it: the slab of the receive buffer, holding what the peer computed; -/
theorem dpay_rx (b : Fin 4) : dpay A B c (rxs b).val = pt c cc0_scratch4 (slab b.val) fullShare (SX A B (xp c)) := by
  revert b; intro b; fin_cases b <;> rfl
/-- with sending a half-slab: half of the share of it; -/
theorem dpay_sy (i : Fin 8) : dpay A B c (sys i).val = pt c cc0_scratch3 (rows i.val) fullShare.left (SY A B c) := by
  fin_cases i <;> rfl
/-- with receiving it: those rows of the result, as they are to be. -/
theorem dpay_ry (i : Fin 8) : dpay A B c (rys i).val = pt c main_v2 (orows (1 - col c) i.val) fullShare (OUT A B c) := by
  fin_cases i <;> rfl
/-- Sending a slab credits a slab's units, -/
theorem damt_sx (b : Fin 4) : damt (sxs b).val = N1 := if_pos (by show b.val < 8; omega)
/-- receiving it the same; -/
theorem damt_rx (b : Fin 4) : damt (rxs b).val = N1 := if_pos (by show 4 + b.val < 8; omega)
/-- sending a half-slab credits a half-slab's units, -/
theorem damt_sy (i : Fin 8) : damt (sys i).val = N2 := if_neg (by show ¬ 8 + i.val < 8; omega)
/-- receiving it the same. -/
theorem damt_ry (i : Fin 8) : damt (rys i).val = N2 := if_neg (by show ¬ 16 + i.val < 8; omega)
/-- The semaphores of sending slabs are among the first 24, -/
theorem lt_sx (b : Fin 4) : (sxs b).val < 24 := by show b.val < 24; omega
/-- those of receiving them, -/
theorem lt_rx (b : Fin 4) : (rxs b).val < 24 := by show 4 + b.val < 24; omega
/-- those of sending half-slabs, -/
theorem lt_sy (i : Fin 8) : (sys i).val < 24 := by show 8 + i.val < 24; omega
/-- and those of receiving them. -/
theorem lt_ry (i : Fin 8) : (rys i).val < 24 := by show 16 + i.val < 24; omega

end Payloads

/-! ## What a device owes -/

/-- The slabs from the `n`-th on that the peer in the other row has still to be sent; -/
def owX (c : Dev nD) (n : ℕ) : CellTallies nD τ sig Unit :=
  ∑ b ∈ Finset.univ.filter (fun b : Fin 4 => n ≤ b.val), tallyAt (dC (xp c) (rxs b)) () N1
/-- the half-slabs from the `n`-th on for the peer in the other column. -/
def owY (c : Dev nD) (n : ℕ) : CellTallies nD τ sig Unit :=
  ∑ i ∈ Finset.univ.filter (fun i : Fin 8 => n ≤ i.val), tallyAt (dC (yp c) (rys i)) () N2

/-- The slabs owed from the `b`-th on are the `b`-th and those after it, -/
theorem owX_step (c : Dev nD) (b : Fin 4) : owX c b.val = owX c (b.val + 1) + tallyAt (dC (xp c) (rxs b)) () N1 := by
  unfold owX
  rw [show (Finset.univ.filter fun b' : Fin 4 => b.val ≤ b'.val) = insert b (Finset.univ.filter fun b' : Fin 4 => b.val + 1 ≤ b'.val) from by
    ext b'; simp only [Finset.mem_filter, Finset.mem_univ, true_and, Finset.mem_insert, Fin.ext_iff]; omega]
  rw [Finset.sum_insert (by simp), add_comm]
/-- and so for half-slabs. -/
theorem owY_step (c : Dev nD) (i : Fin 8) : owY c i.val = owY c (i.val + 1) + tallyAt (dC (yp c) (rys i)) () N2 := by
  unfold owY
  rw [show (Finset.univ.filter fun b' : Fin 8 => i.val ≤ b'.val) = insert i (Finset.univ.filter fun b' : Fin 8 => i.val + 1 ≤ b'.val) from by
    ext b'; simp only [Finset.mem_filter, Finset.mem_univ, true_and, Finset.mem_insert, Fin.ext_iff]; omega]
  rw [Finset.sum_insert (by simp), add_comm]
/-- After the fourth slab none is owed, -/
theorem owX_end (c : Dev nD) : owX c 4 = 0 := by
  unfold owX; rw [Finset.filter_false_of_mem (fun b _ => by have := b.isLt; omega), Finset.sum_empty]
/-- and after the eighth half-slab none is. -/
theorem owY_end (c : Dev nD) : owY c 8 = 0 := by
  unfold owY; rw [Finset.filter_false_of_mem (fun b _ => by have := b.isLt; omega), Finset.sum_empty]

/-- All that is owed from slab `n` and half-slab `k` on. -/
def owe (c : Dev nD) (n k : ℕ) : CellTallies nD τ sig Unit := owX c n + owY c k
/-- What a device owes at the start: with all that, a barrier unit to each peer. -/
def owe0 (c : Dev nD) : CellTallies nD τ sig Unit := owe c 0 0 + tallyAt (barC (yp c)) () 1 + tallyAt (barC (xp c)) () 1

/-- Sending a slab takes it from what is owed, -/
theorem owe_x (c : Dev nD) (b : Fin 4) (k : ℕ) : owe c b.val k = owe c (b.val + 1) k + tallyAt (dC (xp c) (rxs b)) () N1 := by
  unfold owe; rw [owX_step, add_right_comm]
/-- sending a half-slab does, -/
theorem owe_y (c : Dev nD) (n : ℕ) (i : Fin 8) : owe c n i.val = owe c n (i.val + 1) + tallyAt (dC (yp c) (rys i)) () N2 := by
  unfold owe; rw [owY_step, add_assoc]
/-- and after all of them nothing is owed. -/
theorem owe_end (c : Dev nD) : owe c 4 8 = 0 := by unfold owe; rw [owX_end, owY_end, add_zero]

/-- The cells counted: those of TensorCores. -/
def L (g : GSem nD τ sig) : Finset Unit := if g.1.2 = .tc then {()} else ∅
/-- The order waits follow: local copies and completed sends, then the barrier, then slabs, then half-slabs. -/
def lv (g : GSem nD τ sig) (_ : Unit) : ℕ :=
  match g.2 with
  | .reg _ => 1
  | .dma k => if 4 ≤ k.val ∧ k.val < 8 then 2 else if 16 ≤ k.val ∧ k.val < 24 then 3 else 0

/-- Only the cores that run the kernel have levels on their cells, -/
theorem L_of_ne (g : GSem nD τ sig) (h : g.1.2 ≠ .tc) : L g = ∅ := if_neg h
/-- and they have one on each. -/
theorem L_tc (c : Dev nD) (sm : SemLoc sig) : L ((c : Thread nD τ), sm) = {()} := if_pos rfl

/-- A sum of tallies that is positive somewhere has a term that is. -/
theorem sum_pos {ι : Type} (S : Finset ι) (f : ι → CellTallies nD τ sig Unit) (g : GSem nD τ sig) (u : Unit)
    (h : 0 < (∑ i ∈ S, f i) g u) : ∃ i ∈ S, 0 < f i g u := by
  classical
  induction S using Finset.induction_on with
  | empty => rw [Finset.sum_empty] at h; exact absurd h (Nat.lt_irrefl 0)
  | insert a S ha ih =>
    rw [Finset.sum_insert ha] at h
    by_cases h1 : 0 < f a g u
    · exact ⟨a, Finset.mem_insert_self _ _, h1⟩
    · obtain ⟨i, hi, hp⟩ := ih (by
        have : (f a + ∑ i ∈ S, f i) g u = f a g u + (∑ i ∈ S, f i) g u := rfl
        omega)
      exact ⟨i, Finset.mem_insert_of_mem hi, hp⟩

/-- A debt lies on a receive semaphore of a peer. -/
theorem owe_pos (c : Dev nD) (n k : ℕ) (g : GSem nD τ sig) (u : Unit) (h : 0 < owe c n k g u) :
    (n < 4 ∧ ∃ b, g = dC (xp c) (rxs b)) ∨ ∃ i, g = dC (yp c) (rys i) := by
  have h' : 0 < owX c n g u + owY c k g u := h
  rcases Nat.lt_or_ge 0 (owX c n g u) with h1 | h1
  · obtain ⟨b, hb, hp⟩ := sum_pos _ _ g u h1
    have hn : n ≤ b.val := (Finset.mem_filter.mp hb).2
    rw [tallyAt_apply] at hp
    by_cases he : g = dC (xp c) (rxs b) ∧ u = ()
    · exact .inl ⟨by have := b.isLt; omega, b, he.1⟩
    · rw [if_neg he] at hp; exact absurd hp (Nat.lt_irrefl 0)
  · obtain ⟨b, hb, hp⟩ := sum_pos _ _ g u (show 0 < owY c k g u by omega)
    rw [tallyAt_apply] at hp
    by_cases he : g = dC (yp c) (rys b) ∧ u = ()
    · exact .inr ⟨b, he.1⟩
    · rw [if_neg he] at hp; exact absurd hp (Nat.lt_irrefl 0)

/-- Receiving a slab has level two, -/
theorem lv_rx (c : Dev nD) (b : Fin 4) (u : Unit) : lv (dC c (rxs b)) u = 2 := if_pos ⟨by show 4 ≤ 4 + b.val; omega, by show 4 + b.val < 8; omega⟩
/-- receiving a half-slab level three, -/
theorem lv_ry (c : Dev nD) (i : Fin 8) (u : Unit) : lv (dC c (rys i)) u = 3 := by
  fin_cases i <;> rfl

/-- A device may wait on a cell below everything it owes. -/
theorem mayWait_of (c : Dev nD) (sm : SemLoc sig) (n k l : ℕ) (hl : lv ((c : Thread nD τ), sm) () ≤ l)
    (h : l < 2 ∨ (l < 3 ∧ 4 ≤ n)) : (levAts L lv : sProp 𝕄) ⊢ MayWait (c : Thread nD τ) sm () (owe c n k) :=
  MayOwe.of_cut (L := L) (lev := lv) l (fun p hp => by rw [Finset.mem_singleton.mp hp, L_tc]; exact Finset.mem_singleton_self _)
    (fun g u hg => by
      rcases owe_pos c n k g u hg with ⟨-, b, rfl⟩ | ⟨i, rfl⟩
      · rw [L_tc]; exact Finset.mem_singleton_self _
      · rw [L_tc]; exact Finset.mem_singleton_self _)
    (fun p hp => by rw [Finset.mem_singleton.mp hp]; exact hl)
    (fun g u hg => by
      rcases owe_pos c n k g u hg with ⟨hn, b, rfl⟩ | ⟨i, rfl⟩
      · rw [lv_rx]; omega
      · rw [lv_ry]; omega)

/-- and the semaphores that a device credits for itself have level zero. -/
theorem lv_low (c : Dev nD) (k : DmaSem sig) (h : k.val < 4 ∨ (8 ≤ k.val ∧ k.val < 16) ∨ 24 ≤ k.val) : lv (dC c k) () ≤ 0 := by
  dsimp only [lv]; rw [if_neg (by omega), if_neg (by omega)]

/-! ## What every device knows -/

/-- The barrier's cells, by their devices, -/
def barEmb : Dev nD ↪ GSem nD τ sig := ⟨barC, fun _ _ h => congrArg (fun g : GSem nD τ sig => g.1.1) h⟩
/-- The first 24 transfer semaphores. -/
def tsem (k : Fin 24) : DmaSem sig := ⟨k.val, by have := k.isLt; show k.val < 31; omega⟩
/-- and the cells of the first 24 transfer semaphores, by device and semaphore. -/
def dmaEmb : Dev nD × Fin 24 ↪ GSem nD τ sig :=
  ⟨fun ck => dC ck.1 (tsem ck.2), fun x y h =>
    Prod.ext (congrArg (fun g : GSem nD τ sig => g.1.1) h)
      (Fin.ext (by
        have h2 := congrArg Prod.snd h
        have h3 : tsem x.2 = tsem y.2 := SemLoc.dma.inj h2
        exact congrArg (fun k : DmaSem sig => k.val) h3))⟩
/-- All barriers, and all the transfer semaphores with a schedule. -/
abbrev barCells : Finset (GSem nD τ sig) := Finset.univ.map barEmb
/-- All cells of the first 24 transfer semaphores. -/
abbrev dmaCells : Finset (GSem nD τ sig) := Finset.univ.map dmaEmb

/-- Every device's barrier is among the protocol's cells, -/
theorem bar_mem (c : Dev nD) : barC c ∈ (barCells ∪ dmaCells : Finset (GSem nD τ sig)) :=
  Finset.mem_union_left _ (Finset.mem_map_of_mem barEmb (Finset.mem_univ c))
/-- and so are its first 24 transfer semaphores. -/
theorem dma_mem (c : Dev nD) (k : DmaSem sig) (hk : k.val < 24) : dC c k ∈ (barCells ∪ dmaCells : Finset (GSem nD τ sig)) :=
  Finset.mem_union_right _ (Finset.mem_map_of_mem dmaEmb (Finset.mem_univ (c, (⟨k.val, hk⟩ : Fin 24))))

section Knowledge

variable (A : Dev nD → Vec F S4x1024x2048 .f32) (B : Dev nD → Vec F S2048x4096 .f32) (κ : GSem nD τ sig → ℕ)

/-- Every scheduled cell of the machine under its invariant, and every barrier in its first round; -/
def cellsInv : sProp 𝕄 :=
  iprop((bigSep (barCells ∪ dmaCells) fun g => cellInv ER (sched A B) (κ g) g) ∗ bigSep barCells fun g => reached ER g 0)
/-- and the order of waits. -/
def know : sProp 𝕄 := iprop(cellsInv A B κ ∗ levAts L lv)

/-- The cells' invariants may be used any number of times, -/
instance cellsInv_persistent : BI.Persistent (cellsInv A B κ) := by unfold cellsInv; infer_instance
/-- and so may all that every device knows. -/
instance know_persistent : BI.Persistent (know A B κ) := by unfold know; infer_instance

/-- Every device knows each cell's invariant, -/
theorem know_inv {g : GSem nD τ sig} (hg : g ∈ (barCells ∪ dmaCells : Finset (GSem nD τ sig))) :
    know A B κ ⊢ cellInv ER (sched A B) (κ g) g := by
  unfold know cellsInv
  have h : (bigSep (barCells ∪ dmaCells) fun g => (cellInv ER (sched A B) (κ g) g : sProp 𝕄)) ⊢ cellInv ER (sched A B) (κ g) g := bigSep_elim hg
  iintro ⟨⟨H, -⟩, -⟩
  iapply h; iexact H
/-- that each barrier's round has begun, -/
theorem know_bar (c : Dev nD) : know A B κ ⊢ reached ER (barC c) 0 := by
  unfold know cellsInv
  have h : (bigSep barCells fun g => (reached ER g 0 : sProp 𝕄)) ⊢ reached ER (barC c) 0 :=
    bigSep_elim (Finset.mem_map_of_mem barEmb (Finset.mem_univ c))
  iintro ⟨⟨-, H⟩, -⟩
  iapply h; iexact H
/-- and the levels. -/
theorem know_lev : know A B κ ⊢ levAts L lv := by
  unfold know; iintro ⟨-, H⟩; iexact H

end Knowledge

end TwoStage
-- ==== Proof.Steps.lean ====
module

public import proofs.«01_k».proof.Proof.Protocol

/-!
# One step at a time

A rule for every kind of operation the kernel's body performs, each stated once for all the places it
occurs at: what the operation takes, and what the rest of the body may then rely on.
-/

@[expose] public section

noncomputable section

namespace TwoStage

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen

variable {F : FTy → Type} [FloatOps F]

local notation "𝕄" => MT nD τ sig Unit (Elt F) ℕ UU ℕ

/-- No loop's variant is needed: the body has no loop. -/
abbrev 𝒱₀ : Variants := Variants.none

/-- A stretch of the body on device `c`, ending in a state that satisfies `Q`. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- What device `c` owes, whatever it has waited on so far. -/
def ow (c : Dev nD) (O : CellTallies nD τ sig Unit) : sProp 𝕄 := iprop(∃ W, owes (c : Thread nD τ) O W)

/-- A copy inside device `c` under way, to complete on semaphore `sm` with `N` units; its wait yields `D`. -/
def Moving (c : Dev nD) (sm : DmaSem sig) (N : ℕ) (D : sProp 𝕄) : sProp 𝕄 :=
  iprop(∃ P R : sProp 𝕄, Flight EC (c : Thread nD τ) (.dma sm) () N P ∗ R ∗ ⌜iprop(P ∗ R) ⊢ D⌝)

section Generic

variable (c : Dev nD) {α : Type} {Q : α → sProp (MT nD τ sig Unit (Elt F) ℕ UU ℕ)}

/-- Starting a copy inside the device. -/
theorem copy_start {sp sp' : Space} {s : Shape} {e : EltTy} (src : Memref sig .tc sp s e) (dst : Memref sig .tc sp' s e) (sm : DmaSem sig)
    {hsrc : src.view.WordExact} {hdst : dst.view.WordExact} {hsem : DmaTarget.Typed sp (.dma sm) (DmaTarget.here (nD := nD) (p := Proc.tc) dst)}
    {k : PUnit → Prog (TpuEff nD τ sig (Elt F) Λ₀ .tc) α} {q : PosShare TreeShare}
    {Ss : Finset (Idx (src.view.loc (c : Thread nD τ)))} {Sd : Finset (Idx (dst.view.loc (c : Thread nD τ)))}
    {fs : Buf (Elt F) (src.view.loc (c : Thread nD τ))} {fd : Buf (Elt F) (dst.view.loc (c : Thread nD τ))}
    (G : Buf (Elt F) (dst.view.loc (c : Thread nD τ)))
    (N : ℕ) (hN : dst.view.amount (.dma sm) = N) (hN0 : 0 < N)
    (hs : src.view.set ⊆ Ss) (hd : dst.view.set = Sd) (hG : dst.view.read (Elt F) G = src.view.read (Elt F) fs) :
    (src.view.loc (c : Thread nD τ) ↦[Ss]{q} fs)
      ⊢ iprop((dst.view.loc (c : Thread nD τ) ↦[Sd]{fullShare} fd) -∗ semVal ((c : Thread nD τ), SemLoc.dma sm) 0
        -∗ (Moving c sm N iprop((dst.view.loc (c : Thread nD τ) ↦[Sd]{fullShare} G) ∗ (src.view.loc (c : Thread nD τ) ↦[Ss]{q} fs)) -∗ run c (k ⟨⟩) Q)
        -∗ run c (.op (.enqueueDma src (.here dst) (.dma sm) hsrc hdst hsem) k) Q) := by
  subst hd
  iintro Hs Hd Hv Hk
  ihave Hs := (pointsTo_split_subset hs).1 $$ Hs
  icases Hs with ⟨Hs, Hr⟩
  iapply (wp_dmaLocal EC 𝒱₀ (c : Thread nD τ) none (src := src) (dst := dst) (via := .same) (sm := .dma sm) () N hN hN0 (subset_refl _)) $$ [Hs Hd Hv]
  · isplitl [Hs]; · iexact Hs
    isplitl [Hd]; · iexact Hd
    iexact Hv
  iintro HF
  iapply Hk
  unfold Moving
  iexists _, _
  isplitl [HF]; · iexact HF
  isplitl [Hr]; · iexact Hr
  ipureintro
  iintro ⟨⟨Hd, Hs⟩, Hr⟩
  isplitl [Hd]
  · iapply (Entails.of_eq (pointsTo_congr (write_eq_on dst.view fd G _ hG))); iexact Hd
  · iapply (pointsTo_split_subset hs).2
    isplitl [Hs] <;> iassumption

/-- Waiting for it. -/
theorem copy_wait {sp sp' : Space} {s s' : Shape} {e e' : EltTy} {sm : DmaSem sig}
    {srcw : Memref sig .tc sp' s' e'} {dstw : Memref sig .tc sp s e} {hsrc : srcw.view.WordExact} {hdst : dstw.view.WordExact}
    {k : PUnit → Prog (TpuEff nD τ sig (Elt F) Λ₀ .tc) α} {N n m : ℕ} {D : sProp 𝕄} (hN : dstw.view.dmaCredit = N)
    (hl : lv ((c : Thread nD τ), .dma sm) () ≤ 0) :
    (levAts L lv : sProp 𝕄)
      ⊢ iprop(Moving c sm N D -∗ ow c (owe c n m)
        -∗ ((D ∗ semVal ((c : Thread nD τ), SemLoc.dma sm) 0 ∗ ow c (owe c n m)) -∗ run c (k ⟨⟩) Q)
        -∗ run c (.op (.waitDma2 sm srcw dstw hsrc hdst) k) Q) := by
  unfold Moving ow
  iintro #Hlev ⟨%P, %R, HF, HR, %hD⟩ ⟨%W, HO⟩ Hk
  iapply (wp_waitLocalO EC 𝒱₀ (c : Thread nD τ) none () hN) $$ [HF HO]
  · isplitl [HF]; · iexact HF
    isplitl [HO]; · iexact HO
    iapply (mayWait_of c (.dma sm) n m 0 hl (.inl (by decide))); iexact Hlev
  iintro ⟨HP, Hv, HO⟩
  iapply Hk
  isplitl [HP HR]
  · iapply hD
    isplitl [HP] <;> iassumption
  isplitl [Hv]; · iexact Hv
  iexists _; iexact HO

/-- A load, at a named value. -/
theorem load_at {cs : CoreSpace} {s : Shape} {e : EltTy} (m : Memref sig .tc cs s e) (r : Rect s) {hl : m.view.LoadsAt r.toLoadRect}
    {k : (r.shape.Idx → Elt F e) → Prog (TpuEff nD τ sig (Elt F) Λ₀ .tc) α}
    {S : Finset (Idx ((m.access r).loc (c : Thread nD τ)))} {q : PosShare TreeShare} {f : Buf (Elt F) ((m.access r).loc (c : Thread nD τ))}
    (v : r.shape.Idx → Elt F e) (hS : (m.access r).set ⊆ S) (hv : (m.access r).read (Elt F) f = v) :
    ((m.access r).loc (c : Thread nD τ) ↦[S]{q} f)
      ⊢ iprop((((m.access r).loc (c : Thread nD τ) ↦[S]{q} f) -∗ run c (k v) Q)
        -∗ run c (.op (.load m r.toLoadRect hl) k) Q) := by
  subst hv
  exact wp_load_rect 𝒱₀ (c : Thread nD τ) none Set.univ hS

/-- A store over elements held, at contents that read back what was stored. -/
theorem store_at {cs : CoreSpace} {s : Shape} {e : EltTy} (m : Memref sig .tc cs s e) (r : Rect s) {w : r.shape.Idx → Elt F e}
    {hx : (m.access r).Stores Finset.univ} {hm : Finset.univ = Finset.univ ∨ ∀ a, r.stride a = 1}
    {k : PUnit → Prog (TpuEff nD τ sig (Elt F) Λ₀ .tc) α}
    {S : Finset (Idx ((m.access r).loc (c : Thread nD τ)))} {f : Buf (Elt F) ((m.access r).loc (c : Thread nD τ))}
    (G : Buf (Elt F) ((m.access r).loc (c : Thread nD τ))) (hS : (m.access r).set = S) (hG : (m.access r).read (Elt F) G = w) :
    ((m.access r).loc (c : Thread nD τ) ↦[S]{fullShare} f)
      ⊢ iprop((((m.access r).loc (c : Thread nD τ) ↦[S]{fullShare} G) -∗ run c (k ⟨⟩) Q)
        -∗ run c (.op (.store m r w Finset.univ hx hm) k) Q) := by
  subst hS
  iintro H Hk
  iapply (wp_store 𝒱₀ (c : Thread nD τ) none Set.univ (m := m) (r := r) (w := w) (Mk := Finset.univ) (S := (m.access r).set) (f := f) (subset_refl _)) $$ H
  iintro H
  iapply Hk
  iapply (Entails.of_eq (pointsTo_congr (write_eq_on (m.access r) f G w hG)))
  iexact H

end Generic

end TwoStage
-- ==== Proof.Contents.lean ====
module

public import proofs.«01_k».proof.Proof.Protocol

/-!
# What the operations read and write

The contents of every window the kernel's body touches, once a buffer holds what it should.
-/

@[expose] public section

noncomputable section

namespace TwoStage

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen

variable {F : FTy → Type} [FloatOps F]

local notation "𝕄" => MT nD τ sig Unit (Elt F) ℕ UU ℕ

/-! ## Contents as the operations see them -/

section Contents

variable (A : Dev nD → Vec F S4x1024x2048 .f32) (B : Dev nD → Vec F S2048x4096 .f32) (c : Dev nD)

/-- Weight rows `512 j` up, as a load of the staging buffer sees them; -/
def WL (j : ℕ) : Vec F S1x512x2048 .f32 := fun i => B c (at2 2048 4096 (512 * j + (i 1).val) (2048 * col c + (i 2).val))
/-- and converted. -/
def WR (j : ℕ) : FVec F S512x2048 .bf16 := fun i => WB B c (at2 2048 2048 (512 * j + (i 0).val) (i 1).val)
/-- A slab of the send buffer, first and second exchange by half-slabs. -/
def SXL (b : ℕ) : FVec F S1x512x2048 .bf16 := fun i => SX A B c (at3 4 512 2048 b (i 1).val (i 2).val)
/-- A half-slab of the send buffer in the second exchange, as it is stored. -/
def SYL (b : ℕ) : FVec F S1x256x2048 .bf16 := fun i => SY A B c (at3 4 512 2048 (b / 2) (256 * (b % 2) + (i 1).val) (i 2).val)
/-- A half-slab of what was received. -/
def RXL (b : ℕ) : FVec F S1x256x2048 .bf16 := fun i => SX A B (xp c) (at3 4 512 2048 (b / 2) (256 * (b % 2) + (i 1).val) (i 2).val)

/-- A slot of the staging buffer read as the copy into it sees it: those rows of the weights, -/
theorem rd_slot (p : Fin 2) (j : ℕ) {inb} {h} {hq} :
    ((((Memref.whole cc0_scratch0).slice (Rect.unit (s := S2x512x2048) ![p.val, 0, 0] S1x512x2048.size inb) h).squeeze S512x2048 hq).view.read (Elt F) (WS B c j) : Vec F S512x2048 .f32)
      = fun i => B c (at2 2048 4096 (512 * j + (i 0).val) (2048 * col c + (i 1).val)) := by
  funext i
  have h0 : (i 0).val < 512 := (i 0).isLt
  have h1 : (i 1).val < 2048 := (i 1).isLt
  refine (read_at_sq (Val := Elt F) (n0 := 2) (n1 := 512) (n2 := 2048) (p1 := 512) (p2 := 2048) (Memref.whole cc0_scratch0) ![p.val, 0, 0] inb h hq (WS B c j) i).trans ?_
  show B c (at2 2048 4096 (512 * j + (at3 2 512 2048 p.val (0 + (i 0).val) (0 + (i 1).val) 1).val) (2048 * col c + (at3 2 512 2048 p.val (0 + (i 0).val) (0 + (i 1).val) 2).val)) = _
  rw [at3_1, at3_2, Nat.zero_add, Nat.zero_add, Nat.mod_eq_of_lt h0, Nat.mod_eq_of_lt h1]

/-- which are what the weights give at the copy's source. -/
theorem rd_wt (j : ℕ) {inb} {h} :
    (((Memref.whole main_arg1).slice (Rect.unit (s := S2048x4096) ![512 * j, 2048 * col c] S512x2048.size inb) h).view.read (Elt F) (B c) : Vec F S512x2048 .f32)
      = fun i => B c (at2 2048 4096 (512 * j + (i 0).val) (2048 * col c + (i 1).val)) :=
  funext fun i => read_at2 (Val := Elt F) (n0 := 2048) (n1 := 4096) (p0 := 512) (p1 := 2048) (Memref.whole main_arg1) ![512 * j, 2048 * col c] inb (B c) i

/-- A slot of the staging buffer, loaded. -/
theorem ld_slot (p : Fin 2) (j : ℕ) {inb} :
    (((Memref.whole cc0_scratch0).access (Rect.unit (s := S2x512x2048) ![p.val, 0, 0] S1x512x2048.size inb)).read (Elt F) (WS B c j) : Vec F S1x512x2048 .f32) = WL B c j := by
  funext i
  have h0 : (i 1).val < 512 := (i 1).isLt
  have h1 : (i 2).val < 2048 := (i 2).isLt
  refine (read_at3 (Val := Elt F) (n0 := 2) (n1 := 512) (n2 := 2048) (p0 := 1) (p1 := 512) (p2 := 2048) (Memref.whole cc0_scratch0) ![p.val, 0, 0] inb (WS B c j) i).trans ?_
  show B c (at2 2048 4096 (512 * j + (at3 2 512 2048 (p.val + (i 0).val) (0 + (i 1).val) (0 + (i 2).val) 1).val) (2048 * col c + (at3 2 512 2048 (p.val + (i 0).val) (0 + (i 1).val) (0 + (i 2).val) 2).val)) = _
  rw [at3_1, at3_2, Nat.zero_add, Nat.zero_add, Nat.mod_eq_of_lt h0, Nat.mod_eq_of_lt h1]; rfl

/-- A quarter of the converted weights, as it is stored. -/
theorem st_wrows (j : ℕ) {inb} :
    (((Memref.whole cc0_scratch1).access (Rect.unit (s := S2048x2048) ![512 * j, 0] S512x2048.size inb)).read (Elt F) (WB B c) : FVec F S512x2048 .bf16) = WR B c j := by
  funext i
  refine (read_at2 (Val := Elt F) (n0 := 2048) (n1 := 2048) (p0 := 512) (p1 := 2048) (Memref.whole cc0_scratch1) ![512 * j, 0] inb (WB B c) i).trans ?_
  show WB B c (at2 2048 2048 (512 * j + (i 0).val) (0 + (i 1).val)) = _
  rw [Nat.zero_add]; rfl

/-- Reading the activations' rows, and the tile they are staged in. -/
theorem rd_act (r m : ℕ) {inb} {h} :
    (((Memref.whole main_v1).slice (Rect.unit (s := S4x1024x2048) ![2 * m, 512 * r, 0] S2x512x2048.size inb) h).view.read (Elt F) (A c) : Vec F S2x512x2048 .f32) = OT A c r m := by
  funext i
  refine (read_at3 (Val := Elt F) (n0 := 4) (n1 := 1024) (n2 := 2048) (p0 := 2) (p1 := 512) (p2 := 2048) (Memref.whole main_v1) ![2 * m, 512 * r, 0] inb (A c) i).trans ?_
  show A c (at3 4 1024 2048 (2 * m + (i 0).val) (512 * r + (i 1).val) (0 + (i 2).val)) = _
  rw [Nat.zero_add]; rfl

/-- The tile of activations, loaded whole, -/
theorem ld_tile (f : Vec F S2x512x2048 .f32) {inb} :
    (((Memref.whole cc0_scratch2).access (Rect.unit (s := S2x512x2048) ![0, 0, 0] S2x512x2048.size inb)).read (Elt F) f : Vec F S2x512x2048 .f32) = f := by
  funext i
  refine (read_at3 (Val := Elt F) (n0 := 2) (n1 := 512) (n2 := 2048) (p0 := 2) (p1 := 512) (p2 := 2048) (Memref.whole cc0_scratch2) ![0, 0, 0] inb f i).trans ?_
  show f (at3 2 512 2048 (0 + (i 0).val) (0 + (i 1).val) (0 + (i 2).val)) = _
  refine congrArg f (ext3 ?_ ?_ ?_)
  · rw [at3_0, Nat.zero_add]; exact Nat.mod_eq_of_lt (i 0).isLt
  · rw [at3_1, Nat.zero_add]; exact Nat.mod_eq_of_lt (i 1).isLt
  · rw [at3_2, Nat.zero_add]; exact Nat.mod_eq_of_lt (i 2).isLt

/-- and the converted weights, loaded whole. -/
theorem ld_wbuf {inb} :
    (((Memref.whole cc0_scratch1).access (Rect.unit (s := S2048x2048) ![0, 0] S2048x2048.size inb)).read (Elt F) (WB B c) : FVec F S2048x2048 .bf16) = WB B c := by
  funext i
  refine (read_at2 (Val := Elt F) (n0 := 2048) (n1 := 2048) (p0 := 2048) (p1 := 2048) (Memref.whole cc0_scratch1) ![0, 0] inb (WB B c) i).trans ?_
  show WB B c (at2 2048 2048 (0 + (i 0).val) (0 + (i 1).val)) = _
  refine congrArg (WB B c) (ext2 ?_ ?_)
  · rw [at2_0, Nat.zero_add]; exact Nat.mod_eq_of_lt (i 0).isLt
  · rw [at2_1, Nat.zero_add]; exact Nat.mod_eq_of_lt (i 1).isLt

/-! The two exchanges' buffers, by slabs and half-slabs, and the result's windows. -/

/-- A slab of the send buffer in the first exchange, as it is stored, -/
theorem st_slab (b : ℕ) {inb} :
    (((Memref.whole cc0_scratch3).access (Rect.unit (s := S4x512x2048) ![b, 0, 0] S1x512x2048.size inb)).read (Elt F) (SX A B c) : FVec F S1x512x2048 .bf16) = SXL A B c b := by
  funext i
  have h0 : (i 0).val < 1 := (i 0).isLt
  refine (read_at3 (Val := Elt F) (n0 := 4) (n1 := 512) (n2 := 2048) (p0 := 1) (p1 := 512) (p2 := 2048) (Memref.whole cc0_scratch3) ![b, 0, 0] inb (SX A B c) i).trans ?_
  show SX A B c (at3 4 512 2048 (b + (i 0).val) (0 + (i 1).val) (0 + (i 2).val)) = _
  rw [Nat.zero_add, Nat.zero_add, Nat.lt_one_iff.mp h0]; rfl

/-- and a half-slab in the second. -/
theorem st_rows (i : ℕ) {inb} :
    (((Memref.whole cc0_scratch3).access (Rect.unit (s := S4x512x2048) ![i / 2, 256 * (i % 2), 0] S1x256x2048.size inb)).read (Elt F) (SY A B c) : FVec F S1x256x2048 .bf16) = SYL A B c i := by
  funext j
  have h0 : (j 0).val < 1 := (j 0).isLt
  refine (read_at3 (Val := Elt F) (n0 := 4) (n1 := 512) (n2 := 2048) (p0 := 1) (p1 := 256) (p2 := 2048) (Memref.whole cc0_scratch3) ![i / 2, 256 * (i % 2), 0] inb (SY A B c) j).trans ?_
  show SY A B c (at3 4 512 2048 (i / 2 + (j 0).val) (256 * (i % 2) + (j 1).val) (0 + (j 2).val)) = _
  rw [Nat.zero_add, Nat.lt_one_iff.mp h0]; rfl

/-- A half-slab of the receive buffer, loaded. -/
theorem ld_rows (i : ℕ) {inb} :
    (((Memref.whole cc0_scratch4).access (Rect.unit (s := S4x512x2048) ![i / 2, 256 * (i % 2), 0] S1x256x2048.size inb)).read (Elt F) (SX A B (xp c)) : FVec F S1x256x2048 .bf16) = RXL A B c i := by
  funext j
  have h0 : (j 0).val < 1 := (j 0).isLt
  refine (read_at3 (Val := Elt F) (n0 := 4) (n1 := 512) (n2 := 2048) (p0 := 1) (p1 := 256) (p2 := 2048) (Memref.whole cc0_scratch4) ![i / 2, 256 * (i % 2), 0] inb (SX A B (xp c)) j).trans ?_
  show SX A B (xp c) (at3 4 512 2048 (i / 2 + (j 0).val) (256 * (i % 2) + (j 1).val) (0 + (j 2).val)) = _
  rw [Nat.zero_add, Nat.lt_one_iff.mp h0]; rfl

/-- The send buffer's slab and the receive buffer's read the same contents alike. -/
theorem rd_xfer (b : ℕ) {inb inb'} {h h'} {hq hq'} (f : FVec F S4x512x2048 .bf16) :
    (((((Memref.whole cc0_scratch4).slice (Rect.unit (s := S4x512x2048) ![b, 0, 0] S1x512x2048.size inb) h).squeeze S512x2048 hq).view.read (Elt F) f) : FVec F S512x2048 .bf16)
      = (((Memref.whole cc0_scratch3).slice (Rect.unit (s := S4x512x2048) ![b, 0, 0] S1x512x2048.size inb') h').squeeze S512x2048 hq').view.read (Elt F) f := by
  funext i
  exact (read_at_sq (Val := Elt F) (n0 := 4) (n1 := 512) (n2 := 2048) (p1 := 512) (p2 := 2048) (Memref.whole cc0_scratch4) ![b, 0, 0] inb h hq f i).trans
    (read_at_sq (Val := Elt F) (n0 := 4) (n1 := 512) (n2 := 2048) (p1 := 512) (p2 := 2048) (Memref.whole cc0_scratch3) ![b, 0, 0] inb' h' hq' f i).symm

/-- A half-slab of the result, in the sender's column half, is the send buffer's. -/
theorem rd_orows (i : ℕ) (hi : i < 8) {inb inb'} {h h'} {hq hq'} :
    (((((Memref.whole main_v2).slice (Rect.unit (s := S4x512x4096) ![i / 2, 256 * (i % 2), 2048 * col c] S1x256x2048.size inb) h).squeeze S256x2048 hq).view.read (Elt F) (OUT A B c)) : FVec F S256x2048 .bf16)
      = (((Memref.whole cc0_scratch3).slice (Rect.unit (s := S4x512x2048) ![i / 2, 256 * (i % 2), 0] S1x256x2048.size inb') h').squeeze S256x2048 hq').view.read (Elt F) (SY A B c) := by
  funext j
  have h0 : (j 0).val < 256 := (j 0).isLt
  have h1 : (j 1).val < 2048 := (j 1).isLt
  have hc := col_lt c
  refine (read_at_sq (Val := Elt F) (n0 := 4) (n1 := 512) (n2 := 4096) (p1 := 256) (p2 := 2048) (Memref.whole main_v2) ![i / 2, 256 * (i % 2), 2048 * col c] inb h hq (OUT A B c) j).trans
    (Eq.trans ?_ (read_at_sq (Val := Elt F) (n0 := 4) (n1 := 512) (n2 := 2048) (p1 := 256) (p2 := 2048) (Memref.whole cc0_scratch3) ![i / 2, 256 * (i % 2), 0] inb' h' hq' (SY A B c) j).symm)
  show OUT A B c (at3 4 512 4096 (i / 2) (256 * (i % 2) + (j 0).val) (2048 * col c + (j 1).val)) = SY A B c (at3 4 512 2048 (i / 2) (256 * (i % 2) + (j 0).val) (0 + (j 1).val))
  generalize (j 0).val = y at h0 ⊢
  generalize (j 1).val = z at h1 ⊢
  unfold OUT SY
  rw [at3_0, at3_1, at3_2, at3_0, at3_1, at3_2, show (2048 * col c + z) % 4096 / 2048 = col c from by omega, inCol_col,
    show (2048 * col c + z) % 4096 % 2048 = (0 + z) % 2048 from by omega]

/-- So is a whole slab. -/
theorem rd_oslab (b : ℕ) (hb : b < 4) {inb inb'} {h h'} {hq hq'} :
    (((((Memref.whole main_v2).slice (Rect.unit (s := S4x512x4096) ![b, 0, 2048 * col c] S1x512x2048.size inb) h).squeeze S512x2048 hq).view.read (Elt F) (OUT A B c)) : FVec F S512x2048 .bf16)
      = (((Memref.whole cc0_scratch3).slice (Rect.unit (s := S4x512x2048) ![b, 0, 0] S1x512x2048.size inb') h').squeeze S512x2048 hq').view.read (Elt F) (SY A B c) := by
  funext j
  have h0 : (j 0).val < 512 := (j 0).isLt
  have h1 : (j 1).val < 2048 := (j 1).isLt
  have hc := col_lt c
  refine (read_at_sq (Val := Elt F) (n0 := 4) (n1 := 512) (n2 := 4096) (p1 := 512) (p2 := 2048) (Memref.whole main_v2) ![b, 0, 2048 * col c] inb h hq (OUT A B c) j).trans
    (Eq.trans ?_ (read_at_sq (Val := Elt F) (n0 := 4) (n1 := 512) (n2 := 2048) (p1 := 512) (p2 := 2048) (Memref.whole cc0_scratch3) ![b, 0, 0] inb' h' hq' (SY A B c) j).symm)
  show OUT A B c (at3 4 512 4096 b (0 + (j 0).val) (2048 * col c + (j 1).val)) = SY A B c (at3 4 512 2048 b (0 + (j 0).val) (0 + (j 1).val))
  generalize (j 0).val = y at h0 ⊢
  generalize (j 1).val = z at h1 ⊢
  unfold OUT SY
  rw [at3_0, at3_1, at3_2, at3_0, at3_1, at3_2, show (2048 * col c + z) % 4096 / 2048 = col c from by omega, inCol_col,
    show (2048 * col c + z) % 4096 % 2048 = (0 + z) % 2048 from by omega]

end Contents

end TwoStage
-- ==== Proof.Ops.lean ====
module

public import proofs.«01_k».proof.Proof.Steps
public import proofs.«01_k».proof.Proof.Contents

/-!
# The kernel's operations

Every kind of operation the kernel's body performs, stated once for all the places it occurs at: what the
operation takes, and what the rest of the body may then rely on.
-/

@[expose] public section

noncomputable section

namespace TwoStage

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen

variable {F : FTy → Type} [FloatOps F]

local notation "𝕄" => MT nD τ sig Unit (Elt F) ℕ UU ℕ

section Steps

variable (A : Dev nD → Vec F S4x1024x2048 .f32) (B : Dev nD → Vec F S2048x4096 .f32) (κ : GSem nD τ sig → ℕ)
variable (c : Dev nD) {α : Type} {Q : α → sProp (MT nD τ sig Unit (Elt F) ℕ UU ℕ)}

/-- The semaphore of the copies of weights into slot `p`, -/
abbrev wsm (p : Fin 2) : DmaSem sig := los ⟨p.val, by omega⟩
/-- that of the copies of activations, -/
abbrev osm : DmaSem sig := los 2
/-- and that of the copy of result slab `b`. -/
abbrev ssm (b : Fin 4) : DmaSem sig := los ⟨3 + b.val, by omega⟩

/-- The units that a copy of weights credits, -/
abbrev NW : ℕ := Ref.dmaCredit cc0_scratch0 S512x2048 .f32
/-- a copy of activations, -/
abbrev NO : ℕ := Ref.dmaCredit cc0_scratch2 S2x512x2048 .f32
/-- and a copy of a result slab. -/
abbrev NS : ℕ := Ref.dmaCredit main_v2 S512x2048 .bf16
/-- A copy of weights credits some units, -/
theorem NW_pos : 0 < NW := sig.dmaCredit_pos _ _ _ _ _ (by decide)
/-- a copy of activations does, -/
theorem NO_pos : 0 < NO := sig.dmaCredit_pos _ _ _ _ _ (by decide)
/-- and a copy of a result slab does. -/
theorem NS_pos : 0 < NS := sig.dmaCredit_pos _ _ _ _ _ (by decide)

/-- The semaphores of the copies inside a device have level zero: waiting on them is always allowed. -/
theorem lv_local (k : Fin 7) : lv (dC c (los k)) () ≤ 0 := lv_low c _ (.inr (.inr (Nat.le_add_right _ _)))

/-! ### The weights -/

/-- Staging weight rows `512 j` up in slot `p`. -/
theorem w_start (p : Fin 2) (j : ℕ) {off : Fin 2 → ℕ} (ho : off = ![512 * j, 2048 * col c]) {inb1} {h1} {inb2} {h2} {hq} {hsrc} {hdst} {hsem}
    {k : PUnit → Prog (TpuEff nD τ sig (Elt F) Λ₀ .tc) α} {q : PosShare TreeShare} {f} :
    pt c main_arg1 Finset.univ q (B c)
      ⊢ iprop(pt c cc0_scratch0 (slot p.val) fullShare f -∗ semVal (dC c (wsm p)) 0
        -∗ (Moving c (wsm p) NW iprop(pt c cc0_scratch0 (slot p.val) fullShare (WS B c j) ∗ pt c main_arg1 Finset.univ q (B c)) -∗ run c (k ⟨⟩) Q)
        -∗ run c (.op (.enqueueDma ((Memref.whole main_arg1).slice (Rect.unit (s := S2048x4096) off S512x2048.size inb1) h1)
            (.here (((Memref.whole cc0_scratch0).slice (Rect.unit (s := S2x512x2048) ![p.val, 0, 0] S1x512x2048.size inb2) h2).squeeze S512x2048 hq))
            (.dma (wsm p)) hsrc hdst hsem) k) Q) := by
  subst ho
  exact copy_start c ((Memref.whole main_arg1).slice (Rect.unit (s := S2048x4096) ![512 * j, 2048 * col c] S512x2048.size inb1) h1)
    (((Memref.whole cc0_scratch0).slice (Rect.unit (s := S2x512x2048) ![p.val, 0, 0] S1x512x2048.size inb2) h2).squeeze S512x2048 hq) (wsm p) (WS B c j) NW rfl NW_pos (Finset.subset_univ _) (set_squeeze_box cc0_scratch0 _ _ _ inb2 h2 hq rfl)
    ((rd_slot B c p j).trans (rd_wt B c j).symm)

/-- Waiting for a copy of weights gives back what it held. -/
theorem w_wait (p : Fin 2) {srcw : Memref sig .tc .hbm S512x2048 .f32} {inb2} {h2} {hq} {hsrc} {hdst} {n m : ℕ} {D}
    {k : PUnit → Prog (TpuEff nD τ sig (Elt F) Λ₀ .tc) α} :
    know A B κ
      ⊢ iprop(Moving c (wsm p) NW D -∗ ow c (owe c n m)
        -∗ ((D ∗ semVal (dC c (wsm p)) 0 ∗ ow c (owe c n m)) -∗ run c (k ⟨⟩) Q)
        -∗ run c (.op (.waitDma2 (wsm p) srcw (((Memref.whole cc0_scratch0).slice (Rect.unit (s := S2x512x2048) ![p.val, 0, 0] S1x512x2048.size inb2) h2).squeeze S512x2048 hq) hsrc hdst) k) Q) :=
  (know_lev A B κ).trans (copy_wait c rfl (lv_local c _))

/-- Loading a slot of the staging buffer. -/
theorem w_load (p : Fin 2) (j : ℕ) {inb} {hl} {k : Vec F S1x512x2048 .f32 → Prog (TpuEff nD τ sig (Elt F) Λ₀ .tc) α} :
    pt c cc0_scratch0 (slot p.val) fullShare (WS B c j)
      ⊢ iprop((pt c cc0_scratch0 (slot p.val) fullShare (WS B c j) -∗ run c (k (WL B c j)) Q)
        -∗ run c (.op (.load (Memref.whole cc0_scratch0) (Rect.unit (s := S2x512x2048) ![p.val, 0, 0] S1x512x2048.size inb).toLoadRect hl) k) Q) :=
  load_at c (Memref.whole cc0_scratch0) (Rect.unit (s := S2x512x2048) ![p.val, 0, 0] S1x512x2048.size inb) (WL B c j)
    (set_access_box cc0_scratch0 _ _ _ inb rfl).subset (ld_slot B c p j)

/-- Storing converted weight rows; what the buffer held there is loaded first, and ignored. -/
theorem wb_store (j : Fin 4) {off : Fin 2 → ℕ} (ho : off = ![512 * j.val, 0]) {inb} {inb'} {hl} {w : FVec F S512x2048 .bf16} (hw : w = WR B c j.val) {hx} {hm}
    {k : PUnit → Prog (TpuEff nD τ sig (Elt F) Λ₀ .tc) α} {f} :
    pt c cc0_scratch1 (wrows j.val) fullShare f
      ⊢ iprop((pt c cc0_scratch1 (wrows j.val) fullShare (WB B c) -∗ run c (k ⟨⟩) Q)
        -∗ run c (.op (.load (Memref.whole cc0_scratch1) (Rect.unit (s := S2048x2048) off S512x2048.size inb).toLoadRect hl)
          fun _ => .op (.store (Memref.whole cc0_scratch1) (Rect.unit (s := S2048x2048) off S512x2048.size inb') w Finset.univ hx hm) k) Q) := by
  subst ho; subst hw
  iintro H Hk
  iapply (load_at c (Memref.whole cc0_scratch1) (Rect.unit (s := S2048x2048) ![512 * j.val, 0] S512x2048.size inb) _
    (set_access_box cc0_scratch1 _ _ _ inb rfl).subset rfl) $$ H
  iintro H
  iapply (store_at c (Memref.whole cc0_scratch1) (Rect.unit (s := S2048x2048) ![512 * j.val, 0] S512x2048.size inb') (WB B c)
    (set_access_box cc0_scratch1 _ _ _ inb' rfl) (st_wrows B c j.val)) $$ H
  iexact Hk

/-- Loading the converted weights. -/
theorem wb_load {inb} {hl} {k : Vec F S2048x2048 .bf16 → Prog (TpuEff nD τ sig (Elt F) Λ₀ .tc) α} :
    pt c cc0_scratch1 Finset.univ fullShare (WB B c)
      ⊢ iprop((pt c cc0_scratch1 Finset.univ fullShare (WB B c) -∗ run c (k (WB B c)) Q)
        -∗ run c (.op (.load (Memref.whole cc0_scratch1) (Rect.unit (s := S2048x2048) ![0, 0] S2048x2048.size inb).toLoadRect hl) k) Q) :=
  load_at c (Memref.whole cc0_scratch1) (Rect.unit (s := S2048x2048) ![0, 0] S2048x2048.size inb) (WB B c) (Finset.subset_univ _) (ld_wbuf B c)

/-! ### The activations -/

/-- Staging slabs `2 m` and `2 m + 1` of the rows that row `r` of the mesh owns. -/
theorem o_start (r m : ℕ) {off : Fin 3 → ℕ} (ho : off = ![2 * m, 512 * r, 0]) {inb} {h} {hsrc} {hdst} {hsem}
    {k : PUnit → Prog (TpuEff nD τ sig (Elt F) Λ₀ .tc) α} {f} :
    pt c main_v1 Finset.univ fullShare (A c)
      ⊢ iprop(pt c cc0_scratch2 Finset.univ fullShare f -∗ semVal (dC c osm) 0
        -∗ (Moving c osm NO iprop(pt c cc0_scratch2 Finset.univ fullShare (OT A c r m) ∗ pt c main_v1 Finset.univ fullShare (A c)) -∗ run c (k ⟨⟩) Q)
        -∗ run c (.op (.enqueueDma ((Memref.whole main_v1).slice (Rect.unit (s := S4x1024x2048) off S2x512x2048.size inb) h)
            (.here (Memref.whole cc0_scratch2)) (.dma osm) hsrc hdst hsem) k) Q) := by
  subst ho
  exact copy_start c ((Memref.whole main_v1).slice (Rect.unit (s := S4x1024x2048) ![2 * m, 512 * r, 0] S2x512x2048.size inb) h) (Memref.whole cc0_scratch2) osm (OT A c r m) NO rfl NO_pos (Finset.subset_univ _) (View.set_whole _) (rd_act A c r m).symm

/-- Waiting for a copy of activations gives back what it held. -/
theorem o_wait {srcw : Memref sig .tc .hbm S2x512x2048 .f32} {hsrc} {hdst} {n m : ℕ} {D}
    {k : PUnit → Prog (TpuEff nD τ sig (Elt F) Λ₀ .tc) α} :
    know A B κ
      ⊢ iprop(Moving c osm NO D -∗ ow c (owe c n m)
        -∗ ((D ∗ semVal (dC c osm) 0 ∗ ow c (owe c n m)) -∗ run c (k ⟨⟩) Q)
        -∗ run c (.op (.waitDma2 osm srcw (Memref.whole cc0_scratch2) hsrc hdst) k) Q) :=
  (know_lev A B κ).trans (copy_wait c rfl (lv_local c _))

/-- Loading the tile of activations. -/
theorem o_load (f : Vec F S2x512x2048 .f32) {inb} {hl} {k : Vec F S2x512x2048 .f32 → Prog (TpuEff nD τ sig (Elt F) Λ₀ .tc) α} :
    pt c cc0_scratch2 Finset.univ fullShare f
      ⊢ iprop((pt c cc0_scratch2 Finset.univ fullShare f -∗ run c (k f) Q)
        -∗ run c (.op (.load (Memref.whole cc0_scratch2) (Rect.unit (s := S2x512x2048) ![0, 0, 0] S2x512x2048.size inb).toLoadRect hl) k) Q) :=
  load_at c (Memref.whole cc0_scratch2) (Rect.unit (s := S2x512x2048) ![0, 0, 0] S2x512x2048.size inb) f (Finset.subset_univ _) (ld_tile f)

/-! ### The barrier -/

/-- Telling the peer in the other row that this device's receive buffer is ready. -/
theorem sig_x {c' : Dev nD} (hc : c' = xp c) {k : PUnit → Prog (TpuEff nD τ sig (Elt F) Λ₀ .tc) α} :
    know A B κ
      ⊢ iprop(dutyTok ER (barC (xp c)) 0 false -∗ bigSep Finset.univ (fun b => rxSlab (F := F) c b)
        -∗ ow c (owe0 c)
        -∗ (ow c (owe c 0 0 + tallyAt (barC (yp c)) () 1) -∗ run c (k ⟨⟩) Q)
        -∗ run c (.op (.semSignal (c' : Thread nD τ) barS 1) k) Q) := by
  subst hc
  unfold ow
  iintro #HK Ht Hp ⟨%W, HO⟩ Hk
  ihave #Hi := (know_inv A B κ (bar_mem (xp c))) $$ HK
  ihave #Hr := (know_bar A B κ (xp c)) $$ HK
  iapply (Rounds.wp_signal 𝒱₀ ER (sched A B) (c : Thread nD τ) none (dst := (xp c : Thread nD τ)) (sem := barS) (r := 0) (d := false) (κ := κ (barC (xp c)))
    (by rw [duties_bar]; exact Finset.mem_univ _) (amount_bar A B (xp c) false) () (O₀ := owe0 c) (owe c 0 0 + tallyAt (barC (yp c)) () 1) rfl) $$ [HO Ht Hp]
  · isplitr; · iexact Hi
    isplitl [HO]; · iexact HO
    isplitl [Ht]; · iexact Ht
    isplitl [Hp]
    · have hb : bigSep Finset.univ (fun b => rxSlab (F := F) c b) = (sched A B).payload (barC (xp c)) 0 false := by
        rw [payload_bar, if_neg Bool.false_ne_true]; unfold barX; rw [xp_xp]
      iapply (Entails.of_eq hb); iexact Hp
    iexact Hr
  iintro HO
  iapply Hk
  iexists W; iexact HO

/-- Telling the peer in the other column that the half of this device's result that it fills is ready. -/
theorem sig_y {c' : Dev nD} (hc : c' = yp c) {k : PUnit → Prog (TpuEff nD τ sig (Elt F) Λ₀ .tc) α} :
    know A B κ
      ⊢ iprop(dutyTok ER (barC (yp c)) 0 true -∗ bigSep Finset.univ (fun i => outRows (F := F) c i)
        -∗ ow c (owe c 0 0 + tallyAt (barC (yp c)) () 1)
        -∗ (ow c (owe c 0 0) -∗ run c (k ⟨⟩) Q)
        -∗ run c (.op (.semSignal (c' : Thread nD τ) barS 1) k) Q) := by
  subst hc
  unfold ow
  iintro #HK Ht Hp ⟨%W, HO⟩ Hk
  ihave #Hi := (know_inv A B κ (bar_mem (yp c))) $$ HK
  ihave #Hr := (know_bar A B κ (yp c)) $$ HK
  iapply (Rounds.wp_signal 𝒱₀ ER (sched A B) (c : Thread nD τ) none (dst := (yp c : Thread nD τ)) (sem := barS) (r := 0) (d := true) (κ := κ (barC (yp c)))
    (by rw [duties_bar]; exact Finset.mem_univ _) (amount_bar A B (yp c) true) () (owe c 0 0) rfl) $$ [HO Ht Hp]
  · isplitr; · iexact Hi
    isplitl [HO]; · iexact HO
    isplitl [Ht]; · iexact Ht
    isplitl [Hp]
    · have hb : bigSep Finset.univ (fun i => outRows (F := F) c i) = (sched A B).payload (barC (yp c)) 0 true := by
        rw [payload_bar, if_pos rfl]; unfold barY; rw [yp_yp]
      iapply (Entails.of_eq hb); iexact Hp
    iexact Hr
  iintro HO
  iapply Hk
  iexists W; iexact HO

/-- Waiting for both peers. -/
theorem bar_wait {k : PUnit → Prog (TpuEff nD τ sig (Elt F) Λ₀ .tc) α} :
    know A B κ
      ⊢ iprop(atPos ER (barC c) 0 ∅ 0 -∗ cred (tallyAt (barC c) () 2) -∗ ow c (owe c 0 0)
        -∗ ((barX (F := F) c ∗ barY (F := F) c ∗ semVal (barC c) 0 ∗ ow c (owe c 0 0)) -∗ run c (k ⟨⟩) Q)
        -∗ run c (.op (.semWait barS 2) k) Q) := by
  unfold ow
  iintro #HK Hat Hcr ⟨%W, HO⟩ Hk
  ihave #Hi := (know_inv A B κ (bar_mem c)) $$ HK
  ihave #Hl := (know_lev A B κ) $$ HK
  iapply (Rounds.wp_wait_rest_token 𝒱₀ ER (sched A B) (c : Thread nD τ) none (κ := κ (barC c)) (wpE_semWait_eq 𝒱₀ (c : Thread nD τ) none Set.univ) (Set.mem_univ _) ()
    (O := owe c 0 0) (W := W) (R := 0) (m := 0) (T := ∅) ((Nat.zero_add _).trans (expect_bar A B c).symm)) $$ [Hat Hcr HO]
  · isplitr; · iexact Hi
    isplitl [Hcr]; · iexact Hcr
    isplitl [HO]; · iexact HO
    isplitr; · iapply (mayWait_of c (.reg barS) 0 0 1 (le_of_eq rfl) (.inl (by decide))); iexact Hl
    iexact Hat
  iintro ⟨HO, Hat, -, Hp⟩
  ihave Hp := (rest_bar A B c) $$ Hp
  icases Hp with ⟨HX, HY⟩
  imod (Rounds.cell_close ER (sched A B) (Set.mem_univ (κ (barC c))) id (duties_later A B (barC c))) $$ [Hat] with Hv
  · isplitr; · iexact Hi
    iexact Hat
  iapply Hk
  isplitl [HX]; · iexact HX
  isplitl [HY]; · iexact HY
  isplitl [Hv]; · iexact Hv
  iexists _; iexact HO

/-! ### The transfers between devices -/

/-- Waiting for what completes with transfer semaphore `sm`; its one round is over then. -/
theorem dma_wait (sm : DmaSem sig) (hk : sm.val < 24) (N : ℕ) (hN : damt sm.val = N) {O : CellTallies nD τ sig Unit}
    (hm : (levAts L lv : sProp 𝕄) ⊢ MayWait (c : Thread nD τ) (.dma sm) () O)
    {sp sp' : Space} {s s' : Shape} {e e' : EltTy} {srcw : Memref sig .tc sp' s' e'} {dstw : Memref sig .tc sp s e} {hsrc : srcw.view.WordExact} {hdst : dstw.view.WordExact}
    (hd : dstw.view.dmaCredit = N) {k : PUnit → Prog (TpuEff nD τ sig (Elt F) Λ₀ .tc) α} :
    know A B κ
      ⊢ iprop(atPos ER (dC c sm) 0 ∅ 0 -∗ cred (tallyAt (dC c sm) () N) -∗ ow c O
        -∗ ((dpay A B c sm.val ∗ semVal (dC c sm) 0 ∗ ow c O) -∗ run c (k ⟨⟩) Q)
        -∗ run c (.op (.waitDma2 sm srcw dstw hsrc hdst) k) Q) := by
  subst hd
  unfold ow
  iintro #HK Hat Hcr ⟨%W, HO⟩ Hk
  ihave #Hi := (know_inv A B κ (dma_mem c sm hk)) $$ HK
  ihave #Hl := (know_lev A B κ) $$ HK
  iapply (Rounds.wp_wait_rest_token 𝒱₀ ER (sched A B) (c : Thread nD τ) none (κ := κ (dC c sm)) (wpE_waitDma2_eq (src := srcw) (dst := dstw) 𝒱₀ (c : Thread nD τ) none Set.univ) (Set.mem_univ _) ()
    (O := O) (W := W) (R := 0) (m := 0) (T := ∅) (by rw [expect_dma A B c sm hk, hN, Nat.zero_add])) $$ [Hat Hcr HO]
  · isplitr; · iexact Hi
    isplitl [Hcr]; · iexact Hcr
    isplitl [HO]; · iexact HO
    isplitr; · iapply hm; iexact Hl
    iexact Hat
  iintro ⟨HO, Hat, -, Hp⟩
  ihave Hp := (Entails.of_eq (rest_dma A B c sm hk)) $$ Hp
  imod (Rounds.cell_close ER (sched A B) (Set.mem_univ (κ (dC c sm))) id (duties_later A B (dC c sm))) $$ [Hat] with Hv
  · isplitr; · iexact Hi
    iexact Hat
  iapply Hk
  isplitl [Hp]; · iexact Hp
  isplitl [Hv]; · iexact Hv
  iexists _; iexact HO

/-- The right to send slab `b` to the peer in the other row; -/
def xTok (b : Fin 4) : sProp 𝕄 :=
  iprop(dutyTok ER (dC c (sxs b)) 0 false ∗ reached ER (dC c (sxs b)) 0 ∗ dutyTok ER (dC (xp c) (rxs b)) 0 false)
/-- and half-slab `i` to the peer in the other column. -/
def yTok (i : Fin 8) : sProp 𝕄 :=
  iprop(dutyTok ER (dC c (sys i)) 0 false ∗ reached ER (dC c (sys i)) 0 ∗ dutyTok ER (dC (yp c) (rys i)) 0 false)

/-- Sending slab `b`. -/
theorem x_send (b : Fin 4) (n n' : ℕ) (hn : n = b.val) (hn' : n' = b.val + 1) {c' : Dev nD} (hc : c' = xp c) {inb1 h1 hq1 inb2 h2 hq2} {hsc} {hsrc} {hdst} {hsem} {m : ℕ}
    {k : PUnit → Prog (TpuEff nD τ sig (Elt F) Λ₀ .tc) α} :
    know A B κ
      ⊢ iprop(xTok (F := F) c b -∗ rxSlab (F := F) (xp c) b -∗ pt c cc0_scratch3 (slab b.val) fullShare (SX A B c) -∗ ow c (owe c n m)
        -∗ ((cred (tallyAt (dC c (sxs b)) () N1) ∗ ow c (owe c n' m)) -∗ run c (k ⟨⟩) Q)
        -∗ run c (.op (.enqueueDma (((Memref.whole cc0_scratch3).slice (Rect.unit (s := S4x512x2048) ![b.val, 0, 0] S1x512x2048.size inb1) h1).squeeze S512x2048 hq1)
            (.remote (c' : Thread nD τ) (((Memref.whole cc0_scratch4).slice (Rect.unit (s := S4x512x2048) ![b.val, 0, 0] S1x512x2048.size inb2) h2).squeeze S512x2048 hq2) (.dma (sxs b)) hsc)
            (.dma (rxs b)) hsrc hdst hsem) k) Q) := by
  subst hc; subst hn; subst hn'
  unfold ow xTok rxSlab
  iintro #HK ⟨Ht1, #Hr1, Ht2⟩ ⟨⟨%f, Hd⟩, #Hr2⟩ Hs ⟨%W, HO⟩ Hk
  ihave #Hi1 := (know_inv A B κ (dma_mem c (sxs b) (lt_sx b))) $$ HK
  ihave #Hi2 := (know_inv A B κ (dma_mem (xp c) (rxs b) (lt_rx b))) $$ HK
  have e1 := set_squeeze_box cc0_scratch3 ![b.val, 0, 0] ![b.val, 0, 0] S1x512x2048.size inb1 h1 hq1 rfl
  have e2 := set_squeeze_box cc0_scratch4 ![b.val, 0, 0] ![b.val, 0, 0] S1x512x2048.size inb2 h2 hq2 rfl
  have p1 : (((((Memref.whole cc0_scratch3).slice (Rect.unit (s := S4x512x2048) ![b.val, 0, 0] S1x512x2048.size inb1) h1).squeeze S512x2048 hq1).view.loc (c : Thread nD τ)
      ↦[(((Memref.whole cc0_scratch3).slice (Rect.unit (s := S4x512x2048) ![b.val, 0, 0] S1x512x2048.size inb1) h1).squeeze S512x2048 hq1).view.set]{fullShare} (SX A B c)) : sProp 𝕄)
      ⊢ (sched A B).payload (dC c (sxs b)) 0 false := by
    rw [payload_dma, dpay_sx]
    exact Entails.of_eq (by rw [e1])
  have p2 : (((((Memref.whole cc0_scratch4).slice (Rect.unit (s := S4x512x2048) ![b.val, 0, 0] S1x512x2048.size inb2) h2).squeeze S512x2048 hq2).view.loc (xp c : Thread nD τ)
      ↦[(((Memref.whole cc0_scratch4).slice (Rect.unit (s := S4x512x2048) ![b.val, 0, 0] S1x512x2048.size inb2) h2).squeeze S512x2048 hq2).view.set]{fullShare}
        ((((Memref.whole cc0_scratch4).slice (Rect.unit (s := S4x512x2048) ![b.val, 0, 0] S1x512x2048.size inb2) h2).squeeze S512x2048 hq2).view.write (Elt F) f
          ((((Memref.whole cc0_scratch3).slice (Rect.unit (s := S4x512x2048) ![b.val, 0, 0] S1x512x2048.size inb1) h1).squeeze S512x2048 hq1).view.read (Elt F) (SX A B c)) Finset.univ)) : sProp 𝕄)
      ⊢ (sched A B).payload (dC (xp c) (rxs b)) 0 false := by
    rw [payload_dma, dpay_rx, xp_xp]
    refine (Entails.of_eq (pointsTo_congr (write_eq_on (Val := Elt F) (((Memref.whole cc0_scratch4).slice (Rect.unit (s := S4x512x2048) ![b.val, 0, 0] S1x512x2048.size inb2) h2).squeeze S512x2048 hq2).view f (SX A B c) _ (rd_xfer b.val (SX A B c))))).trans (Entails.of_eq (by rw [e2]))
  iapply (Rounds.wp_send_pointsTo 𝒱₀ ER (sched A B) (c : Thread nD τ) none (c' := (xp c : Thread nD τ))
    (src := ((Memref.whole cc0_scratch3).slice (Rect.unit (s := S4x512x2048) ![b.val, 0, 0] S1x512x2048.size inb1) h1).squeeze S512x2048 hq1)
    (dst := ((Memref.whole cc0_scratch4).slice (Rect.unit (s := S4x512x2048) ![b.val, 0, 0] S1x512x2048.size inb2) h2).squeeze S512x2048 hq2)
    (sS := .dma (sxs b)) (sem := .dma (rxs b)) (q := fullShare) (fs := SX A B c) (fd := f) (κ₁ := κ (dC c (sxs b))) (κ₂ := κ (dC (xp c) (rxs b)))
    (r₁ := 0) (r₂ := 0) (d₁ := false) (d₂ := false)
    (by rw [duties_dma A B c _ (lt_sx b)]; exact Finset.mem_singleton_self _) (by rw [duties_dma A B (xp c) _ (lt_rx b)]; exact Finset.mem_singleton_self _)
    () () N1 rfl (damt_sx b) (damt_rx b) (owe c (b.val + 1) m) (owe_x c b m) (W := W) p1 p2) $$ [Hs Hd HO Ht1 Ht2]
  · isplitr; · iexact Hi1
    isplitr; · iexact Hi2
    isplitl [Hs]; · rw [e1]; iexact Hs
    isplitl [Hd]; · rw [e2]; iexact Hd
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists W; iexact HO

/-- Storing a slab of what the peer in the other row asked for; what was there is loaded first, and ignored. -/
theorem sx_store (b : Fin 4) {off : Fin 3 → ℕ} (ho : off = ![b.val, 0, 0]) {inb} {inb'} {hl} {w : FVec F S1x512x2048 .bf16} (hw : w = SXL A B c b.val) {hx} {hm}
    {k : PUnit → Prog (TpuEff nD τ sig (Elt F) Λ₀ .tc) α} {f} :
    pt c cc0_scratch3 (slab b.val) fullShare f
      ⊢ iprop((pt c cc0_scratch3 (slab b.val) fullShare (SX A B c) -∗ run c (k ⟨⟩) Q)
        -∗ run c (.op (.load (Memref.whole cc0_scratch3) (Rect.unit (s := S4x512x2048) off S1x512x2048.size inb).toLoadRect hl)
          fun _ => .op (.store (Memref.whole cc0_scratch3) (Rect.unit (s := S4x512x2048) off S1x512x2048.size inb') w Finset.univ hx hm) k) Q) := by
  subst ho; subst hw
  iintro H Hk
  iapply (load_at c (Memref.whole cc0_scratch3) (Rect.unit (s := S4x512x2048) ![b.val, 0, 0] S1x512x2048.size inb) _
    (set_access_box cc0_scratch3 _ _ _ inb rfl).subset rfl) $$ H
  iintro H
  iapply (store_at c (Memref.whole cc0_scratch3) (Rect.unit (s := S4x512x2048) ![b.val, 0, 0] S1x512x2048.size inb') (SX A B c)
    (set_access_box cc0_scratch3 _ _ _ inb' rfl) (st_slab A B c b.val)) $$ H
  iexact Hk

/-- Storing a half-slab of what this device keeps. -/
theorem sy_store (i : Fin 8) {off : Fin 3 → ℕ} (ho : off = ![i.val / 2, 256 * (i.val % 2), 0]) {inb} {inb'} {hl} {w : FVec F S1x256x2048 .bf16} (hw : w = SYL A B c i.val) {hx} {hm}
    {k : PUnit → Prog (TpuEff nD τ sig (Elt F) Λ₀ .tc) α} {f} :
    pt c cc0_scratch3 (rows i.val) fullShare f
      ⊢ iprop((pt c cc0_scratch3 (rows i.val) fullShare (SY A B c) -∗ run c (k ⟨⟩) Q)
        -∗ run c (.op (.load (Memref.whole cc0_scratch3) (Rect.unit (s := S4x512x2048) off S1x256x2048.size inb).toLoadRect hl)
          fun _ => .op (.store (Memref.whole cc0_scratch3) (Rect.unit (s := S4x512x2048) off S1x256x2048.size inb') w Finset.univ hx hm) k) Q) := by
  subst ho; subst hw
  iintro H Hk
  iapply (load_at c (Memref.whole cc0_scratch3) (Rect.unit (s := S4x512x2048) ![i.val / 2, 256 * (i.val % 2), 0] S1x256x2048.size inb) _
    (set_access_box cc0_scratch3 _ _ _ inb rfl).subset rfl) $$ H
  iintro H
  iapply (store_at c (Memref.whole cc0_scratch3) (Rect.unit (s := S4x512x2048) ![i.val / 2, 256 * (i.val % 2), 0] S1x256x2048.size inb') (SY A B c)
    (set_access_box cc0_scratch3 _ _ _ inb' rfl) (st_rows A B c i.val)) $$ H
  iexact Hk

/-- Loading a half-slab of what the peer in the other row sent. -/
theorem rx_load (b : Fin 4) (i : Fin 8) (hb : i.val / 2 = b.val) {off : Fin 3 → ℕ} (ho : off = ![i.val / 2, 256 * (i.val % 2), 0]) {inb} {hl} {k : Vec F S1x256x2048 .bf16 → Prog (TpuEff nD τ sig (Elt F) Λ₀ .tc) α} :
    pt c cc0_scratch4 (slab b.val) fullShare (SX A B (xp c))
      ⊢ iprop((pt c cc0_scratch4 (slab b.val) fullShare (SX A B (xp c)) -∗ run c (k (RXL A B c i.val)) Q)
        -∗ run c (.op (.load (Memref.whole cc0_scratch4) (Rect.unit (s := S4x512x2048) off S1x256x2048.size inb).toLoadRect hl) k) Q) := by
  subst ho
  exact load_at c (Memref.whole cc0_scratch4) (Rect.unit (s := S4x512x2048) ![i.val / 2, 256 * (i.val % 2), 0] S1x256x2048.size inb) (RXL A B c i.val)
    ((set_access_box cc0_scratch4 _ _ _ inb rfl).subset.trans ((rows_sub i.val).trans (by rw [hb]))) (ld_rows A B c i.val)

/-- Sending half-slab `i`; the right half of its share stays. -/
theorem y_send (i : Fin 8) (m m' : ℕ) (hm : m = i.val) (hm' : m' = i.val + 1) {c' : Dev nD} (hc : c' = yp c) {offs : Fin 3 → ℕ} (hs : offs = ![i.val / 2, 256 * (i.val % 2), 0]) {off : Fin 3 → ℕ} (ho : off = ![i.val / 2, 256 * (i.val % 2), 2048 * col c])
    {inb1 h1 hq1 inb2 h2 hq2} {hsc} {hsrc} {hdst} {hsem} {n : ℕ} {k : PUnit → Prog (TpuEff nD τ sig (Elt F) Λ₀ .tc) α} :
    know A B κ
      ⊢ iprop(yTok (F := F) c i -∗ outRows (F := F) (yp c) i -∗ pt c cc0_scratch3 (rows i.val) fullShare (SY A B c) -∗ ow c (owe c n m)
        -∗ ((cred (tallyAt (dC c (sys i)) () N2) ∗ pt c cc0_scratch3 (rows i.val) fullShare.right (SY A B c) ∗ ow c (owe c n m')) -∗ run c (k ⟨⟩) Q)
        -∗ run c (.op (.enqueueDma (((Memref.whole cc0_scratch3).slice (Rect.unit (s := S4x512x2048) offs S1x256x2048.size inb1) h1).squeeze S256x2048 hq1)
            (.remote (c' : Thread nD τ) (((Memref.whole main_v2).slice (Rect.unit (s := S4x512x4096) off S1x256x2048.size inb2) h2).squeeze S256x2048 hq2) (.dma (sys i)) hsc)
            (.dma (rys i)) hsrc hdst hsem) k) Q) := by
  subst hc; subst ho; subst hs; subst hm; subst hm'
  unfold ow yTok outRows
  iintro #HK ⟨Ht1, #Hr1, Ht2⟩ ⟨⟨%f, Hd⟩, #Hr2⟩ Hs ⟨%W, HO⟩ Hk
  ihave Hs := (pointsTo_share (PosShare.mem_left_op_right fullShare)).1 $$ Hs
  icases Hs with ⟨Hs, Hsr⟩
  ihave #Hi1 := (know_inv A B κ (dma_mem c (sys i) (lt_sy i))) $$ HK
  ihave #Hi2 := (know_inv A B κ (dma_mem (yp c) (rys i) (lt_ry i))) $$ HK
  have hcol : 1 - col (yp c) = col c := by rw [col_yp]; have := col_lt c; omega
  have e1 := set_squeeze_box cc0_scratch3 ![i.val / 2, 256 * (i.val % 2), 0] ![i.val / 2, 256 * (i.val % 2), 0] S1x256x2048.size inb1 h1 hq1 rfl
  have e2 : (((Memref.whole main_v2).slice (Rect.unit (s := S4x512x4096) ![i.val / 2, 256 * (i.val % 2), 2048 * col c] S1x256x2048.size inb2) h2).squeeze S256x2048 hq2).view.set = orows (1 - col (yp c)) i.val := by
    rw [hcol]; exact set_squeeze_box main_v2 _ _ S1x256x2048.size inb2 h2 hq2 rfl
  have p1 : (((((Memref.whole cc0_scratch3).slice (Rect.unit (s := S4x512x2048) ![i.val / 2, 256 * (i.val % 2), 0] S1x256x2048.size inb1) h1).squeeze S256x2048 hq1).view.loc (c : Thread nD τ)
      ↦[(((Memref.whole cc0_scratch3).slice (Rect.unit (s := S4x512x2048) ![i.val / 2, 256 * (i.val % 2), 0] S1x256x2048.size inb1) h1).squeeze S256x2048 hq1).view.set]{fullShare.left} (SY A B c)) : sProp 𝕄)
      ⊢ (sched A B).payload (dC c (sys i)) 0 false := by
    rw [payload_dma, dpay_sy]
    exact Entails.of_eq (by rw [e1])
  have p2 : (((((Memref.whole main_v2).slice (Rect.unit (s := S4x512x4096) ![i.val / 2, 256 * (i.val % 2), 2048 * col c] S1x256x2048.size inb2) h2).squeeze S256x2048 hq2).view.loc (yp c : Thread nD τ)
      ↦[(((Memref.whole main_v2).slice (Rect.unit (s := S4x512x4096) ![i.val / 2, 256 * (i.val % 2), 2048 * col c] S1x256x2048.size inb2) h2).squeeze S256x2048 hq2).view.set]{fullShare}
        ((((Memref.whole main_v2).slice (Rect.unit (s := S4x512x4096) ![i.val / 2, 256 * (i.val % 2), 2048 * col c] S1x256x2048.size inb2) h2).squeeze S256x2048 hq2).view.write (Elt F) f
          ((((Memref.whole cc0_scratch3).slice (Rect.unit (s := S4x512x2048) ![i.val / 2, 256 * (i.val % 2), 0] S1x256x2048.size inb1) h1).squeeze S256x2048 hq1).view.read (Elt F) (SY A B c)) Finset.univ)) : sProp 𝕄)
      ⊢ (sched A B).payload (dC (yp c) (rys i)) 0 false := by
    rw [payload_dma, dpay_ry, OUT_yp]
    refine (Entails.of_eq (pointsTo_congr (write_eq_on (Val := Elt F) (((Memref.whole main_v2).slice (Rect.unit (s := S4x512x4096) ![i.val / 2, 256 * (i.val % 2), 2048 * col c] S1x256x2048.size inb2) h2).squeeze S256x2048 hq2).view f (OUT A B c) _ (rd_orows A B c i.val i.isLt)))).trans (Entails.of_eq (by rw [e2]))
  iapply (Rounds.wp_send_pointsTo 𝒱₀ ER (sched A B) (c : Thread nD τ) none (c' := (yp c : Thread nD τ))
    (src := ((Memref.whole cc0_scratch3).slice (Rect.unit (s := S4x512x2048) ![i.val / 2, 256 * (i.val % 2), 0] S1x256x2048.size inb1) h1).squeeze S256x2048 hq1)
    (dst := ((Memref.whole main_v2).slice (Rect.unit (s := S4x512x4096) ![i.val / 2, 256 * (i.val % 2), 2048 * col c] S1x256x2048.size inb2) h2).squeeze S256x2048 hq2)
    (sS := .dma (sys i)) (sem := .dma (rys i)) (q := fullShare.left) (fs := SY A B c) (fd := f) (κ₁ := κ (dC c (sys i))) (κ₂ := κ (dC (yp c) (rys i)))
    (r₁ := 0) (r₂ := 0) (d₁ := false) (d₂ := false)
    (by rw [duties_dma A B c _ (lt_sy i)]; exact Finset.mem_singleton_self _) (by rw [duties_dma A B (yp c) _ (lt_ry i)]; exact Finset.mem_singleton_self _)
    () () N2 rfl (damt_sy i) (damt_ry i) (owe c n (i.val + 1)) (owe_y c n i) (W := W) p1 p2) $$ [Hs Hd HO Ht1 Ht2]
  · isplitr; · iexact Hi1
    isplitr; · iexact Hi2
    isplitl [Hs]; · rw [e1]; iexact Hs
    isplitl [Hd]; · rw [e2]; iexact Hd
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  isplitl [Hsr]; · iexact Hsr
  iexists W; iexact HO

/-- A slab is its two half-slabs. -/
theorem slab_halves {q : PosShare TreeShare} {f} (b : Fin 4) (i i' : Fin 8) (hi : i.val = 2 * b.val) (hi' : i'.val = 2 * b.val + 1) :
    (pt c cc0_scratch3 (slab b.val) q f : sProp 𝕄)
      ⊣⊢ iprop(pt c cc0_scratch3 (rows i.val) q f ∗ pt c cc0_scratch3 (rows i'.val) q f) := by
  rw [hi, hi', ← rows_union]
  exact pointsTo_union (rows_disj b.val)

/-! The four waits of the exchanges. -/

/-- A sent slab is given back as its two halves. -/
theorem sx_wait (b : Fin 4) (i i' : Fin 8) (hi : i.val = 2 * b.val) (hi' : i'.val = 2 * b.val + 1) {off : Fin 3 → ℕ} {inb h hq} {srcw : Memref sig .tc .vmem S512x2048 .bf16} {hsrc} {hdst} {n m : ℕ}
    {k : PUnit → Prog (TpuEff nD τ sig (Elt F) Λ₀ .tc) α} :
    know A B κ
      ⊢ iprop(atPos ER (dC c (sxs b)) 0 ∅ 0 -∗ cred (tallyAt (dC c (sxs b)) () N1) -∗ ow c (owe c n m)
        -∗ ((pt c cc0_scratch3 (rows i.val) fullShare (SX A B c) ∗ pt c cc0_scratch3 (rows i'.val) fullShare (SX A B c) ∗ semVal (dC c (sxs b)) 0 ∗ ow c (owe c n m)) -∗ run c (k ⟨⟩) Q)
        -∗ run c (.op (.waitDma2 (sxs b) srcw (((Memref.whole cc0_scratch3).slice (Rect.unit (s := S4x512x2048) off S1x512x2048.size inb) h).squeeze S512x2048 hq) hsrc hdst) k) Q) := by
  have := dma_wait A B κ c (Q := Q) (sxs b) (lt_sx b) N1 (damt_sx b) (mayWait_of c (.dma (sxs b)) n m 0 (lv_low c (sxs b) (.inl b.isLt)) (.inl (by decide)))
    (srcw := srcw) (dstw := ((Memref.whole cc0_scratch3).slice (Rect.unit (s := S4x512x2048) off S1x512x2048.size inb) h).squeeze S512x2048 hq) (hsrc := hsrc) (hdst := hdst) rfl (k := k)
  rw [dpay_sx] at this
  iintro #HK Hat Hcr HO Hk
  iapply this $$ HK Hat Hcr HO
  iintro ⟨Hs, Hv, HO⟩
  ihave Hs := (slab_halves c b i i' hi hi').1 $$ Hs
  icases Hs with ⟨H0, H1⟩
  iapply Hk
  isplitl [H0]; · iexact H0
  isplitl [H1]; · iexact H1
  isplitl [Hv]; · iexact Hv
  iexact HO

/-- Waiting for a slab from the peer in the other row. -/
theorem rx_wait (b : Fin 4) {off : Fin 3 → ℕ} {inb h hq} {srcw : Memref sig .tc .vmem S512x2048 .bf16} {hsrc} {hdst} {m : ℕ}
    {k : PUnit → Prog (TpuEff nD τ sig (Elt F) Λ₀ .tc) α} :
    know A B κ
      ⊢ iprop(atPos ER (dC c (rxs b)) 0 ∅ 0 -∗ cred (tallyAt (dC c (rxs b)) () N1) -∗ ow c (owe c 4 m)
        -∗ ((pt c cc0_scratch4 (slab b.val) fullShare (SX A B (xp c)) ∗ semVal (dC c (rxs b)) 0 ∗ ow c (owe c 4 m)) -∗ run c (k ⟨⟩) Q)
        -∗ run c (.op (.waitDma2 (rxs b) srcw (((Memref.whole cc0_scratch4).slice (Rect.unit (s := S4x512x2048) off S1x512x2048.size inb) h).squeeze S512x2048 hq) hsrc hdst) k) Q) := by
  have := dma_wait A B κ c (Q := Q) (rxs b) (lt_rx b) N1 (damt_rx b) (mayWait_of c (.dma (rxs b)) 4 m 2 (le_of_eq (lv_rx c b ())) (.inr ⟨by decide, le_refl 4⟩))
    (srcw := srcw) (dstw := ((Memref.whole cc0_scratch4).slice (Rect.unit (s := S4x512x2048) off S1x512x2048.size inb) h).squeeze S512x2048 hq) (hsrc := hsrc) (hdst := hdst) rfl (k := k)
  rw [dpay_rx] at this
  exact this

/-- Waiting until a half-slab is sent. -/
theorem sy_wait (i : Fin 8) {off : Fin 3 → ℕ} {inb h hq} {srcw : Memref sig .tc .hbm S256x2048 .bf16} {hsrc} {hdst} {n m : ℕ}
    {k : PUnit → Prog (TpuEff nD τ sig (Elt F) Λ₀ .tc) α} :
    know A B κ
      ⊢ iprop(atPos ER (dC c (sys i)) 0 ∅ 0 -∗ cred (tallyAt (dC c (sys i)) () N2) -∗ ow c (owe c n m)
        -∗ ((pt c cc0_scratch3 (rows i.val) fullShare.left (SY A B c) ∗ semVal (dC c (sys i)) 0 ∗ ow c (owe c n m)) -∗ run c (k ⟨⟩) Q)
        -∗ run c (.op (.waitDma2 (sys i) srcw (((Memref.whole cc0_scratch3).slice (Rect.unit (s := S4x512x2048) off S1x256x2048.size inb) h).squeeze S256x2048 hq) hsrc hdst) k) Q) := by
  have := dma_wait A B κ c (Q := Q) (sys i) (lt_sy i) N2 (damt_sy i) (mayWait_of c (.dma (sys i)) n m 0
      (lv_low c (sys i) (.inr (.inl ⟨Nat.le_add_right 8 i.val, by show 8 + i.val < 16; omega⟩))) (.inl (by decide)))
    (srcw := srcw) (dstw := ((Memref.whole cc0_scratch3).slice (Rect.unit (s := S4x512x2048) off S1x256x2048.size inb) h).squeeze S256x2048 hq) (hsrc := hsrc) (hdst := hdst) rfl (k := k)
  rw [dpay_sy] at this
  exact this

/-- Waiting for a half-slab of the result from the peer in the other column. -/
theorem ry_wait (i : Fin 8) {off : Fin 3 → ℕ} {inb h hq} {srcw : Memref sig .tc .vmem S256x2048 .bf16} {hsrc} {hdst}
    {k : PUnit → Prog (TpuEff nD τ sig (Elt F) Λ₀ .tc) α} :
    know A B κ
      ⊢ iprop(atPos ER (dC c (rys i)) 0 ∅ 0 -∗ cred (tallyAt (dC c (rys i)) () N2) -∗ ow c (owe c 4 8)
        -∗ ((pt c main_v2 (orows (1 - col c) i.val) fullShare (OUT A B c) ∗ semVal (dC c (rys i)) 0 ∗ ow c (owe c 4 8)) -∗ run c (k ⟨⟩) Q)
        -∗ run c (.op (.waitDma2 (rys i) srcw (((Memref.whole main_v2).slice (Rect.unit (s := S4x512x4096) off S1x256x2048.size inb) h).squeeze S256x2048 hq) hsrc hdst) k) Q) := by
  have hm : (levAts L lv : sProp 𝕄) ⊢ MayWait (c : Thread nD τ) (.dma (rys i)) () (owe c 4 8) := by
    rw [owe_end, MayWait_zero]; exact BI.pure_intro trivial
  have := dma_wait A B κ c (Q := Q) (rys i) (lt_ry i) N2 (damt_ry i) hm
    (srcw := srcw) (dstw := ((Memref.whole main_v2).slice (Rect.unit (s := S4x512x4096) off S1x256x2048.size inb) h).squeeze S256x2048 hq) (hsrc := hsrc) (hdst := hdst) rfl (k := k)
  rw [dpay_ry] at this
  exact this

/-! ### The own half of the result -/

/-- Copying a finished slab into this device's own column half. -/
theorem s_start (b : Fin 4) (i i' : Fin 8) (hi : i.val = 2 * b.val) (hi' : i'.val = 2 * b.val + 1) {off : Fin 3 → ℕ} (ho : off = ![b.val, 0, 2048 * col c]) {inb1 h1 hq1 inb2 h2 hq2} {hsrc} {hdst} {hsem}
    {k : PUnit → Prog (TpuEff nD τ sig (Elt F) Λ₀ .tc) α} {f} :
    pt c cc0_scratch3 (rows i.val) fullShare.right (SY A B c)
      ⊢ iprop(pt c cc0_scratch3 (rows i'.val) fullShare.right (SY A B c) -∗ pt c main_v2 (oslab (col c) b.val) fullShare f -∗ semVal (dC c (ssm b)) 0
        -∗ (Moving c (ssm b) NS iprop(pt c main_v2 (oslab (col c) b.val) fullShare (OUT A B c) ∗ pt c cc0_scratch3 (slab b.val) fullShare.right (SY A B c)) -∗ run c (k ⟨⟩) Q)
        -∗ run c (.op (.enqueueDma (((Memref.whole cc0_scratch3).slice (Rect.unit (s := S4x512x2048) ![b.val, 0, 0] S1x512x2048.size inb1) h1).squeeze S512x2048 hq1)
            (.here (((Memref.whole main_v2).slice (Rect.unit (s := S4x512x4096) off S1x512x2048.size inb2) h2).squeeze S512x2048 hq2))
            (.dma (ssm b)) hsrc hdst hsem) k) Q) := by
  subst ho
  iintro H0 H1 Hd Hv Hk
  ihave Hs := (slab_halves c b i i' hi hi').2 $$ [H0 H1]
  · isplitl [H0] <;> iassumption
  iapply (copy_start c (((Memref.whole cc0_scratch3).slice (Rect.unit (s := S4x512x2048) ![b.val, 0, 0] S1x512x2048.size inb1) h1).squeeze S512x2048 hq1)
    (((Memref.whole main_v2).slice (Rect.unit (s := S4x512x4096) ![b.val, 0, 2048 * col c] S1x512x2048.size inb2) h2).squeeze S512x2048 hq2)
    (ssm b) (OUT A B c) NS rfl NS_pos
    (set_squeeze_box cc0_scratch3 _ _ _ inb1 h1 hq1 rfl).subset (set_squeeze_box main_v2 _ _ _ inb2 h2 hq2 rfl)
    (rd_oslab A B c b.val b.isLt)) $$ Hs Hd Hv
  iexact Hk

/-- Waiting for a copy of a result slab gives back what it held. -/
theorem s_wait (b : Fin 4) {off : Fin 3 → ℕ} {srcw : Memref sig .tc .vmem S512x2048 .bf16} {inb h hq} {hsrc} {hdst} {n m : ℕ} {D}
    {k : PUnit → Prog (TpuEff nD τ sig (Elt F) Λ₀ .tc) α} :
    know A B κ
      ⊢ iprop(Moving c (ssm b) NS D -∗ ow c (owe c n m)
        -∗ ((D ∗ semVal (dC c (ssm b)) 0 ∗ ow c (owe c n m)) -∗ run c (k ⟨⟩) Q)
        -∗ run c (.op (.waitDma2 (ssm b) srcw (((Memref.whole main_v2).slice (Rect.unit (s := S4x512x4096) off S1x512x2048.size inb) h).squeeze S512x2048 hq) hsrc hdst) k) Q) :=
  (know_lev A B κ).trans (copy_wait c rfl (lv_local c _))

end Steps

end TwoStage
-- ==== Proof.Payloads.lean ====
module

public import proofs.«01_k».proof.Proof.Contents
public import Idealize.ShloMosaic.Lib.ValueLayout
public import Idealize.ShloMosaic.Lib.Pipeline.Value

/-!
# What is stored

Every value that the body stores is the part of the buffer's intended contents that lies where it is stored.
-/

@[expose] public section

noncomputable section

namespace TwoStage

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen

variable {F : FTy → Type} [FloatOps F]

local notation "𝕄" => MT nD τ sig Unit (Elt F) ℕ UU ℕ

variable (A : Dev nD → Vec F S4x1024x2048 .f32) (B : Dev nD → Vec F S2048x4096 .f32) (c : Dev nD)

/-- Staged weight rows, converted. -/
theorem w_rows (j : ℕ) (h) (hb) : (truncf .bf16 (shapeCast S512x2048 (WL B c j) h : FVec F S512x2048 .f32) hb : FVec F S512x2048 .bf16) = WR B c j := by
  funext i
  have h0 : (i 0).val < 512 := (i 0).isLt
  have h1 : (i 1).val < 2048 := (i 1).isLt
  have e : shapeCast S512x2048 (WL B c j) h i = B c (at2 2048 4096 (512 * j + (i 0).val) (2048 * col c + (i 1).val)) := by
    refine (congrArg _ (eq_ix2 i)).trans ?_
    exact shapeCast_1ab_ab_apply (WL B c j) h (i 0) (i 1)
  show FloatOps.truncf .bf16 hb (shapeCast S512x2048 (WL B c j) h i) = FloatOps.truncf .bf16 _ (B c (at2 2048 4096 ((at2 2048 2048 (512 * j + (i 0).val) (i 1).val) 0).val (2048 * col c + ((at2 2048 2048 (512 * j + (i 0).val) (i 1).val) 1).val)))
  rw [e, at2_0, at2_1]
  refine congrArg (fun x => FloatOps.truncf .bf16 hb (B c x)) (at2_congr _ _ (Nat.mod_mod _ _).symm ?_)
  rw [Nat.mod_eq_of_lt h1]

/-- A slab of the product for the peer's rows. -/
theorem x_rows (m s : ℕ) (hm : m < 2) (hs : s < 2) {off : Fin 2 → ℕ} (ho : off = ![512 * s, 0]) (hsl) (hb) (h) :
    (shapeCast S1x512x2048 (truncf .bf16 (extractStridedSlice S512x2048 off (PR A B c (1 - row c) m) hsl : FVec F S512x2048 .f32) hb : FVec F S512x2048 .bf16) h : FVec F S1x512x2048 .bf16)
      = SXL A B c (2 * m + s) := by
  subst ho
  funext i
  have h0 : (i 0).val < 1 := (i 0).isLt
  have h1 : (i 1).val < 512 := (i 1).isLt
  have h2 : (i 2).val < 2048 := (i 2).isLt
  refine ((congrArg _ (eq_ix3 i)).trans (shapeCast_ab_1ab_apply _ h (i 0) (i 1) (i 2))).trans ?_
  have e : extractStridedSlice S512x2048 ![512 * s, 0] (PR A B c (1 - row c) m) hsl (ix2 (i 1) (i 2)) = PR A B c (1 - row c) m (at2 1024 2048 (512 * s + (i 1).val) (i 2).val) :=
    extractStridedSlice_apply ![512 * s, 0] (PR A B c (1 - row c) m) hsl (ix2 (i 1) (i 2)) (at2 1024 2048 (512 * s + (i 1).val) (i 2).val) (by
      intro a
      fin_cases a
      · exact (at2_0 _ _).trans (Nat.mod_eq_of_lt (by omega))
      · exact ((at2_1 _ _).trans (Nat.mod_eq_of_lt h2)).trans (Nat.zero_add _).symm)
  show FloatOps.truncf .bf16 hb (extractStridedSlice S512x2048 ![512 * s, 0] (PR A B c (1 - row c) m) hsl (ix2 (i 1) (i 2)))
    = FloatOps.truncf .bf16 _ (PR A B c (1 - row c) ((at3 4 512 2048 (2 * m + s) (i 1).val (i 2).val 0).val / 2)
      (at2 1024 2048 (512 * ((at3 4 512 2048 (2 * m + s) (i 1).val (i 2).val 0).val % 2) + (at3 4 512 2048 (2 * m + s) (i 1).val (i 2).val 1).val) (at3 4 512 2048 (2 * m + s) (i 1).val (i 2).val 2).val))
  rw [e, at3_0, at3_1, at3_2]
  generalize (i 1).val = y at h1 ⊢
  generalize (i 2).val = z at h2 ⊢
  rw [show (2 * m + s) % 4 / 2 = m from by omega, show (2 * m + s) % 4 % 2 = s from by omega, Nat.mod_eq_of_lt h1, Nat.mod_eq_of_lt h2]

/-- A half-slab of the product for the own rows, added to what the peer computed for them. -/
theorem y_rows (i : ℕ) (hi : i < 8) {off : Fin 2 → ℕ} (ho : off = ![512 * (i / 2 % 2) + 256 * (i % 2), 0]) (hsl) (hb) (h) (h') (hb') :
    (shapeCast S1x256x2048 (truncf .bf16 (addf (extractStridedSlice S256x2048 off (PR A B c (row c) (i / 4)) hsl : FVec F S256x2048 .f32)
      (extf .f32 (shapeCast S256x2048 (RXL A B c i) h' : FVec F S256x2048 .bf16) hb')) hb : FVec F S256x2048 .bf16) h : FVec F S1x256x2048 .bf16)
      = SYL A B c i := by
  subst ho
  funext j
  have h0 : (j 0).val < 1 := (j 0).isLt
  have h1 : (j 1).val < 256 := (j 1).isLt
  have h2 : (j 2).val < 2048 := (j 2).isLt
  refine ((congrArg _ (eq_ix3 j)).trans (shapeCast_ab_1ab_apply _ h (j 0) (j 1) (j 2))).trans ?_
  have e : extractStridedSlice S256x2048 ![512 * (i / 2 % 2) + 256 * (i % 2), 0] (PR A B c (row c) (i / 4)) hsl (ix2 (j 1) (j 2))
      = PR A B c (row c) (i / 4) (at2 1024 2048 (512 * (i / 2 % 2) + 256 * (i % 2) + (j 1).val) (j 2).val) :=
    extractStridedSlice_apply ![512 * (i / 2 % 2) + 256 * (i % 2), 0] (PR A B c (row c) (i / 4)) hsl (ix2 (j 1) (j 2)) (at2 1024 2048 (512 * (i / 2 % 2) + 256 * (i % 2) + (j 1).val) (j 2).val) (by
      intro a
      fin_cases a
      · exact (at2_0 _ _).trans (Nat.mod_eq_of_lt (by omega))
      · exact ((at2_1 _ _).trans (Nat.mod_eq_of_lt h2)).trans (Nat.zero_add _).symm)
  have e2 : shapeCast S256x2048 (RXL A B c i) h' (ix2 (j 1) (j 2)) = XV A B (xp c) (i / 4) (at2 1024 2048 (512 * (i / 2 % 2) + 256 * (i % 2) + (j 1).val) (j 2).val) := by
    refine (shapeCast_1ab_ab_apply (RXL A B c i) h' (j 1) (j 2)).trans ?_
    show XV A B (xp c) ((at3 4 512 2048 (i / 2) (256 * (i % 2) + (j 1).val) (j 2).val 0).val / 2)
      (at2 1024 2048 (512 * ((at3 4 512 2048 (i / 2) (256 * (i % 2) + (j 1).val) (j 2).val 0).val % 2) + (at3 4 512 2048 (i / 2) (256 * (i % 2) + (j 1).val) (j 2).val 1).val)
        (at3 4 512 2048 (i / 2) (256 * (i % 2) + (j 1).val) (j 2).val 2).val) = _
    rw [at3_0, at3_1, at3_2]
    generalize (j 1).val = y at h1 ⊢
    generalize (j 2).val = z at h2 ⊢
    rw [show i / 2 % 4 / 2 = i / 4 from by omega, show i / 2 % 4 % 2 = i / 2 % 2 from by omega, Nat.mod_eq_of_lt h2, show (256 * (i % 2) + y) % 512 = 256 * (i % 2) + y from by omega, Nat.add_assoc]
  show FloatOps.truncf .bf16 hb (FloatOps.addf (extractStridedSlice S256x2048 ![512 * (i / 2 % 2) + 256 * (i % 2), 0] (PR A B c (row c) (i / 4)) hsl (ix2 (j 1) (j 2)))
      (FloatOps.extf .f32 hb' (shapeCast S256x2048 (RXL A B c i) h' (ix2 (j 1) (j 2)))))
    = YV A B c ((at3 4 512 2048 (i / 2) (256 * (i % 2) + (j 1).val) (j 2).val 0).val / 2)
      (at2 1024 2048 (512 * ((at3 4 512 2048 (i / 2) (256 * (i % 2) + (j 1).val) (j 2).val 0).val % 2) + (at3 4 512 2048 (i / 2) (256 * (i % 2) + (j 1).val) (j 2).val 1).val)
        (at3 4 512 2048 (i / 2) (256 * (i % 2) + (j 1).val) (j 2).val 2).val)
  rw [e, e2, at3_0, at3_1, at3_2]
  generalize (j 1).val = y at h1 ⊢
  generalize (j 2).val = z at h2 ⊢
  rw [show i / 2 % 4 / 2 = i / 4 from by omega, show i / 2 % 4 % 2 = i / 2 % 2 from by omega, Nat.mod_eq_of_lt h2, show (256 * (i % 2) + y) % 512 = 256 * (i % 2) + y from by omega, Nat.add_assoc]
  rfl

/-! ## As the body names them -/

/-- The first quarter of the weights, converted, -/
theorem pay1_val (j : ℕ) : k0_pay1 (WL B c j) = WR B c j := (shapeCast_self _ _).trans (w_rows B c j _ _)
/-- the second, -/
theorem pay2_val (j : ℕ) : k0_pay2 (WL B c j) = WR B c j := (shapeCast_self _ _).trans (w_rows B c j _ _)
/-- the third, -/
theorem pay3_val (j : ℕ) : k0_pay3 (WL B c j) = WR B c j := (shapeCast_self _ _).trans (w_rows B c j _ _)
/-- and the fourth. -/
theorem pay5_val (j : ℕ) : k0_pay5 (k0_pay4 (WL B c j)) = WR B c j := (shapeCast_self _ _).trans (w_rows B c j _ _)
/-- The first slab for the peer in the other row, -/
theorem pay7_val : k0_pay7 (OT A c (1 - row c) 0) (WB B c) = SXL A B c 0 := x_rows A B c 0 0 (by decide) (by decide) rfl _ _ _
/-- the second, -/
theorem pay9_val : k0_pay9 (k0_pay8 (OT A c (1 - row c) 0) (WB B c)) = SXL A B c 1 := x_rows A B c 0 1 (by decide) (by decide) rfl _ _ _
/-- the third, -/
theorem pay11_val : k0_pay11 (OT A c (1 - row c) 1) (WB B c) = SXL A B c 2 := x_rows A B c 1 0 (by decide) (by decide) rfl _ _ _
/-- and the fourth. -/
theorem pay12_val : k0_pay12 (k0_pay10 (OT A c (1 - row c) 1) (WB B c)) = SXL A B c 3 := x_rows A B c 1 1 (by decide) (by decide) rfl _ _ _
/-- The first half-slab of the device's own rows, with the peer's part added, -/
theorem pay15_val : k0_pay15 (k0_pay14 (OT A c (row c) 0) (WB B c) (RXL A B c 0)) = SYL A B c 0 := y_rows A B c 0 (by decide) rfl _ _ _ _ _
/-- the second, -/
theorem pay16_val : k0_pay16 (PR A B c (row c) 0) (RXL A B c 1) = SYL A B c 1 := y_rows A B c 1 (by decide) rfl _ _ _ _ _
/-- the third, -/
theorem pay17_val : k0_pay17 (PR A B c (row c) 0) (RXL A B c 2) = SYL A B c 2 := y_rows A B c 2 (by decide) rfl _ _ _ _ _
/-- the fourth, -/
theorem pay18_val : k0_pay18 (PR A B c (row c) 0) (RXL A B c 3) = SYL A B c 3 := y_rows A B c 3 (by decide) rfl _ _ _ _ _
/-- the fifth, -/
theorem pay20_val : k0_pay20 (PR A B c (row c) 1) (RXL A B c 4) = SYL A B c 4 := y_rows A B c 4 (by decide) rfl _ _ _ _ _
/-- the sixth, -/
theorem pay21_val : k0_pay21 (PR A B c (row c) 1) (RXL A B c 5) = SYL A B c 5 := y_rows A B c 5 (by decide) rfl _ _ _ _ _
/-- the seventh, -/
theorem pay22_val : k0_pay22 (PR A B c (row c) 1) (RXL A B c 6) = SYL A B c 6 := y_rows A B c 6 (by decide) rfl _ _ _ _ _
/-- and the eighth. -/
theorem pay23_val : k0_pay23 (PR A B c (row c) 1) (RXL A B c 7) = SYL A B c 7 := y_rows A B c 7 (by decide) rfl _ _ _ _ _

end TwoStage
-- ==== Proof.Pieces.lean ====
module

public import proofs.«01_k».proof.Proof.Ops

/-!
# The resources in pieces

Conjunctions over slabs, half-slabs and semaphores, and the buffers cut into the boxes the body works on.
-/

@[expose] public section

noncomputable section

namespace TwoStage

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen

variable {F : FTy → Type} [FloatOps F]

local notation "𝕄" => MT nD τ sig Unit (Elt F) ℕ UU ℕ

section Count

/-- Assertions that entail each other are equal. -/
theorem eq_of {P Q : sProp 𝕄} (h : P ⊣⊢ Q) : P = Q := BI.equiv_iff.mp ⟨h.1, h.2⟩
/-- Separating conjunction is associative, as an equation. -/
theorem sep_assoc_eq (P Q R : sProp 𝕄) : iprop((P ∗ Q) ∗ R) = iprop(P ∗ Q ∗ R) := eq_of Laws.sep_assoc

/-- Four conjuncts, one for each slab; -/
theorem four (Φ : Fin 4 → sProp 𝕄) : bigSep Finset.univ Φ = iprop(Φ 0 ∗ Φ 1 ∗ Φ 2 ∗ Φ 3) := by
  rw [bigSep_univ_eq_bigSepL [0, 1, 2, 3] (by decide) (by decide)]; rfl
/-- eight, one for each half-slab. -/
theorem eight (Φ : Fin 8 → sProp 𝕄) : bigSep Finset.univ Φ = iprop(Φ 0 ∗ Φ 1 ∗ Φ 2 ∗ Φ 3 ∗ Φ 4 ∗ Φ 5 ∗ Φ 6 ∗ Φ 7) := by
  rw [bigSep_univ_eq_bigSepL [0, 1, 2, 3, 4, 5, 6, 7] (by decide) (by decide)]; rfl
/-- Seven things together, one by one. -/
theorem seven (Φ : Fin 7 → sProp 𝕄) : bigSep Finset.univ Φ = iprop(Φ 0 ∗ Φ 1 ∗ Φ 2 ∗ Φ 3 ∗ Φ 4 ∗ Φ 5 ∗ Φ 6) := by
  rw [bigSep_univ_eq_bigSepL [0, 1, 2, 3, 4, 5, 6] (by decide) (by decide)]; rfl

/-- The two halves of every slab are the half-slabs. -/
theorem halves (Ψ : ℕ → sProp 𝕄) :
    bigSep Finset.univ (fun b : Fin 4 => iprop(Ψ (2 * b.val) ∗ Ψ (2 * b.val + 1))) = bigSep Finset.univ (fun i : Fin 8 => Ψ i.val) := by
  rw [four, eight]
  simp only [sep_assoc_eq]
  rfl

/-- Things told by numbers below `a + b` are those below `a` and the rest. -/
theorem bigSep_add {a b : ℕ} (Φ : Fin (a + b) → sProp 𝕄) :
    bigSep Finset.univ Φ = iprop(bigSep Finset.univ (fun i : Fin a => Φ (Fin.castAdd b i)) ∗ bigSep Finset.univ (fun i : Fin b => Φ (Fin.natAdd a i))) := by
  rw [bigSep_univ_equiv finSumFinEquiv Φ, bigSep_univ_sum]
  rfl

/-- The 24 scheduled transfer semaphores, by purpose; -/
theorem sems_scheduled (Φ : DmaSem sig → sProp 𝕄) :
    bigSep Finset.univ (fun k : Fin 24 => Φ (tsem k))
      = iprop(bigSep Finset.univ (fun b : Fin 4 => Φ (sxs b)) ∗ bigSep Finset.univ (fun b : Fin 4 => Φ (rxs b))
        ∗ bigSep Finset.univ (fun i : Fin 8 => Φ (sys i)) ∗ bigSep Finset.univ (fun i : Fin 8 => Φ (rys i))) := by
  refine (bigSep_add (a := 16) (b := 8) (fun k : Fin 24 => Φ (tsem k))).trans ?_
  rw [bigSep_add (a := 8) (b := 8), bigSep_add (a := 4) (b := 4), sep_assoc_eq, sep_assoc_eq]
  rfl
/-- and all 31: those, and the ones of the local copies. -/
theorem sems_all (Φ : DmaSem sig → sProp 𝕄) :
    bigSep (Finset.univ : Finset (DmaSem sig)) Φ
      = iprop(bigSep Finset.univ (fun k : Fin 24 => Φ (tsem k)) ∗ bigSep Finset.univ (fun k : Fin 7 => Φ (los k))) :=
  bigSep_add (a := 24) (b := 7) Φ

end Count

section Buffers

variable (c : Dev nD) {q : PosShare TreeShare}

/-- A transfer buffer is its four slabs, -/
theorem send_slabs {f} : (pt c cc0_scratch3 Finset.univ q f : sProp 𝕄) = bigSep Finset.univ fun b : Fin 4 => pt c cc0_scratch3 (slab b.val) q f := by
  rw [← slab_cover]; exact pointsTo_biUnion _ _ slab_disj
/-- The receive buffer is its four slabs. -/
theorem recv_slabs {f} : (pt c cc0_scratch4 Finset.univ q f : sProp 𝕄) = bigSep Finset.univ fun b : Fin 4 => pt c cc0_scratch4 (slab b.val) q f := by
  rw [← slab_cover]; exact pointsTo_biUnion _ _ slab_disj
/-- or its eight half-slabs. -/
theorem send_rows {f} : (pt c cc0_scratch3 Finset.univ q f : sProp 𝕄) = bigSep Finset.univ fun i : Fin 8 => pt c cc0_scratch3 (rows i.val) q f := by
  rw [send_slabs, ← halves fun i => pt c cc0_scratch3 (rows i) q f]
  exact bigSep_congr fun b _ => by rw [← rows_union]; exact eq_of (pointsTo_union (rows_disj b.val))
/-- The converted weights are four row blocks, -/
theorem wbuf_rows {f} : (pt c cc0_scratch1 Finset.univ q f : sProp 𝕄) = bigSep Finset.univ fun j : Fin 4 => pt c cc0_scratch1 (wrows j.val) q f := by
  rw [← wrows_cover]; exact pointsTo_biUnion _ _ wrows_disj
/-- the weights' staging buffer is two slots, -/
theorem stage_slots {f} : (pt c cc0_scratch0 Finset.univ q f : sProp 𝕄)
    = iprop(pt c cc0_scratch0 (slot (0 : Fin 2).val) q f ∗ pt c cc0_scratch0 (slot (1 : Fin 2).val) q f) := by
  rw [← slot_cover]; exact eq_of (pointsTo_union slot_disj)
/-- The two slots are the staging buffer. -/
theorem stage_join {f g} : iprop(pt c cc0_scratch0 (slot (0 : Fin 2).val) q f ∗ pt c cc0_scratch0 (slot (1 : Fin 2).val) q g)
    ⊢ (iprop(∃ h, pt c cc0_scratch0 Finset.univ q h) : sProp 𝕄) := by
  have hj : iprop(pt c cc0_scratch0 (slot (0 : Fin 2).val) q f ∗ pt c cc0_scratch0 (slot (1 : Fin 2).val) q g)
      ⊢ (pt c cc0_scratch0 Finset.univ q _ : sProp 𝕄) := (pointsTo_join slot_disj).trans (Entails.of_eq (congrArg (fun S => pt c cc0_scratch0 S q _) slot_cover))
  iintro H
  iexists _
  iapply hj; iexact H
/-- and the result is the four slabs of the own column half and the eight half-slabs of the other. -/
theorem out_pieces {f} : (pt c main_v2 Finset.univ q f : sProp 𝕄)
    = iprop((bigSep Finset.univ fun b : Fin 4 => pt c main_v2 (oslab (col c) b.val) q f)
      ∗ bigSep Finset.univ fun i : Fin 8 => pt c main_v2 (orows (1 - col c) i.val) q f) := by
  have h : (fun b : Fin 4 => (bigSep Finset.univ fun y : Bool => (pt c main_v2 (opiece (col c) (b, y)) q f : sProp 𝕄)))
      = fun b : Fin 4 => iprop(pt c main_v2 (oslab (col c) b.val) q f ∗ (pt c main_v2 (orows (1 - col c) (2 * b.val)) q f ∗ pt c main_v2 (orows (1 - col c) (2 * b.val + 1)) q f)) := by
    funext b
    rw [bigSep_univ_eq_bigSepL [false, true] (by decide) (by decide)]
    refine congrArg (fun P => iprop(pt c main_v2 (oslab (col c) b.val) q f ∗ P)) ?_
    refine Eq.trans ?_ (eq_of (pointsTo_union (orows_disj (1 - col c) b.val)))
    rw [orows_union]
    rfl
  rw [← opiece_cover (col_lt c), ← halves fun i => pt c main_v2 (orows (1 - col c) i) q f]
  refine (pointsTo_biUnion _ _ (opiece_disj (col_lt c))).trans ?_
  rw [bigSep_univ_prod, h, bigSep_sep']

end Buffers

end TwoStage
-- ==== Proof.Parts.lean ====
module

public import proofs.«01_k».proof.Proof.Ops
public import proofs.«01_k».proof.Proof.Payloads
public import proofs.«01_k».proof.Proof.Pieces

/-!
# The parts of the kernel's body

What each printed part of the body takes, and what it leaves to the parts after it.
-/

@[expose] public section

noncomputable section

namespace TwoStage

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen

variable {F : FTy → Type} [FloatOps F]

local notation "𝕄" => MT nD τ sig Unit (Elt F) ℕ UU ℕ

section Parts

variable (A : Dev nD → Vec F S4x1024x2048 .f32) (B : Dev nD → Vec F S2048x4096 .f32) (κ : GSem nD τ sig → ℕ)
variable (c : Dev nD) {α : Type} {Q : α → sProp (MT nD τ sig Unit (Elt F) ℕ UU ℕ)}

/-- The handshake's semaphore, as the body names it. -/
abbrev barA : Sems sig S_ := SemArray.scalar (sig.barrier 0 rfl)

/-- What device `c` holds while slot `p` of the staging buffer is being filled with weight rows `512 j` up. -/
abbrev wmove (p : Fin 2) (j : ℕ) (q : PosShare TreeShare) : sProp 𝕄 :=
  Moving c (wsm p) NW iprop(pt c cc0_scratch0 (slot p.val) fullShare (WS B c j) ∗ pt c main_arg1 Finset.univ q (B c))
/-- And while slabs `2 m`, `2 m + 1` of the rows of mesh row `r` are being staged. -/
abbrev omove (r m : ℕ) : sProp 𝕄 :=
  Moving c osm NO iprop(pt c cc0_scratch2 Finset.univ fullShare (OT A c r m) ∗ pt c main_v1 Finset.univ fullShare (A c))
/-- And while slab `b` is being copied into this device's own column half of the result. -/
abbrev smove (b : Fin 4) : sProp 𝕄 :=
  Moving c (ssm b) NS iprop(pt c main_v2 (oslab (col c) b.val) fullShare (OUT A B c) ∗ pt c cc0_scratch3 (slab b.val) fullShare.right (SY A B c))

/-- The first row of the sequence that the other row of the mesh owns. -/
theorem other_row : 512 - 512 * (c.val / 2) = 512 * (1 - row c) := by
  have := row_lt c
  show 512 - 512 * row c = 512 * (1 - row c)
  generalize row c = r at this ⊢
  omega

/-- The converted weights, their four row blocks put together. -/
theorem wb_join :
    iprop(pt c cc0_scratch1 (wrows (0 : Fin 4).val) fullShare (WB B c) ∗ pt c cc0_scratch1 (wrows (1 : Fin 4).val) fullShare (WB B c)
        ∗ pt c cc0_scratch1 (wrows (2 : Fin 4).val) fullShare (WB B c) ∗ pt c cc0_scratch1 (wrows (3 : Fin 4).val) fullShare (WB B c))
      ⊢ (pt c cc0_scratch1 Finset.univ fullShare (WB B c) : sProp 𝕄) := by
  rw [wbuf_rows, four]

/-- Starting the first three local copies, and signalling the other row. -/
theorem part1 {k : (Σ' (d0 : Dev nD) (v2 : BitVec 32) (v5 : BitVec 32) (v6 : BitVec 32) (v7 : BitVec 32), Sems sig S_) → Prog (TpuEff nD τ sig (Elt F) Λ₀ .tc) α} {f0 f1 f2} :
    know A B κ
      ⊢ iprop(pt c main_arg1 Finset.univ fullShare.left (B c)
        -∗ pt c main_arg1 Finset.univ fullShare.right (B c)
        -∗ pt c main_v1 Finset.univ fullShare (A c)
        -∗ pt c cc0_scratch0 (slot (0 : Fin 2).val) fullShare f0
        -∗ pt c cc0_scratch0 (slot (1 : Fin 2).val) fullShare f1
        -∗ pt c cc0_scratch2 Finset.univ fullShare f2
        -∗ semVal (dC c (wsm 0)) 0
        -∗ semVal (dC c (wsm 1)) 0
        -∗ semVal (dC c osm) 0
        -∗ dutyTok ER (barC (xp c)) 0 false
        -∗ bigSep Finset.univ (fun b => rxSlab (F := F) c b)
        -∗ ow c (owe0 c)
        -∗ (∀ v2 v5 v6 v7, (wmove B c 0 0 fullShare.left
            ∗ wmove B c 1 1 fullShare.right
            ∗ omove A c (1 - row c) 0
            ∗ ow c (owe c 0 0 + tallyAt (barC (yp c)) () 1)) -∗ run c (k ⟨c, v2, v5, v6, v7, barA⟩) Q)
        -∗ run c (k0_part1 (Memref.whole main_v1) (Memref.isWhole_whole _) (Memref.whole main_arg1) (Memref.isWhole_whole _) (Memref.whole main_v2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 >>= k) Q) := by
  iintro #HK Hb1 Hb2 Ha Hs0 Hs1 Ht Hv0 Hv1 Hv Htok Hrx HO Hk
  simp only [k0_part1_eq_skeleton]; unfold k0_part1_skel
  simp only [semSignalWord, Prog.lift, Prog.bind_op, Prog.bind_ret, Prog.pure_eq_ret, wp_deviceId]
  iapply (w_start B c 0 0 (off := k0_off1 c) (k0_off1_eq c)) $$ Hb1 Hs0 Hv0
  iintro H0
  iapply (w_start B c 1 1 (off := k0_off2 c) (k0_off2_eq c)) $$ Hb2 Hs1 Hv1
  iintro H1
  iapply (o_start A c (1 - row c) 0 (off := k0_off3 c) ((k0_off3_eq c).trans (by rw [other_row c]))) $$ Ha Ht Hv
  iintro H2
  iapply (sig_x A B κ c (c' := ⟨k0_dev1 c, k0_dev1_lt c⟩) (Fin.ext (k0_dev1_eq c))) $$ HK Htok Hrx HO
  iintro HO
  iapply Hk
  isplitl [H0]; · iexact H0
  isplitl [H1]; · iexact H1
  isplitl [H2]; · iexact H2
  iexact HO

/-- Signalling the other column, waiting for both, and converting the first weight rows. -/
theorem part2 {k : (Vec F S1x512x2048 .f32) → Prog (TpuEff nD τ sig (Elt F) Λ₀ .tc) α} {v2 v7 : BitVec 32} {f} :
    know A B κ
      ⊢ iprop(dutyTok ER (barC (yp c)) 0 true
        -∗ bigSep Finset.univ (fun i => outRows (F := F) c i)
        -∗ ow c (owe c 0 0 + tallyAt (barC (yp c)) () 1)
        -∗ atPos ER (barC c) 0 ∅ 0
        -∗ cred (tallyAt (barC c) () 2)
        -∗ wmove B c 0 0 fullShare.left
        -∗ wmove B c 1 1 fullShare.right
        -∗ pt c cc0_scratch1 (wrows (0 : Fin 4).val) fullShare f
        -∗ ((barX (F := F) c
            ∗ barY (F := F) c
            ∗ semVal (barC c) 0
            ∗ ow c (owe c 0 0)
            ∗ pt c cc0_scratch1 (wrows (0 : Fin 4).val) fullShare (WB B c)
            ∗ wmove B c 0 2 fullShare.left
            ∗ pt c cc0_scratch0 (slot (1 : Fin 2).val) fullShare (WS B c 1)
            ∗ pt c main_arg1 Finset.univ fullShare.right (B c)
            ∗ semVal (dC c (wsm 1)) 0) -∗ run c (k (WL B c 1)) Q)
        -∗ run c (k0_part2 (Memref.whole main_v1) (Memref.isWhole_whole _) (Memref.whole main_arg1) (Memref.isWhole_whole _) (Memref.whole main_v2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2 v7 barA >>= k) Q) := by
  iintro #HK Htok Hou HO Hat Hcr H0 H1 Hw0 Hk
  simp only [k0_part2_eq_skeleton]; unfold k0_part2_skel
  simp only [semSignalWord, semWaitWord, Prog.lift, Prog.bind_op, Prog.bind_ret, Prog.pure_eq_ret]
  iapply (sig_y A B κ c (c' := ⟨k0_dev2 c, k0_dev2_lt c⟩) (Fin.ext (k0_dev2_eq c))) $$ HK Htok Hou HO
  iintro HO
  iapply (bar_wait A B κ c) $$ HK Hat Hcr HO
  iintro ⟨HX, HY, Hv, HO⟩
  iapply (w_wait A B κ c 0) $$ HK H0 HO
  iintro ⟨⟨Hs0, Hb1⟩, Hv0, HO⟩
  iapply (w_load B c 0 0) $$ Hs0
  iintro Hs0
  iapply (wb_store B c 0 rfl (pay1_val B c 0)) $$ Hw0
  iintro Hw0
  iapply (w_start B c 0 2 (off := k0_off4 c) (k0_off4_eq c)) $$ Hb1 Hs0 Hv0
  iintro H0
  iapply (w_wait A B κ c 1) $$ HK H1 HO
  iintro ⟨⟨Hs1, Hb2⟩, Hv1, HO⟩
  iapply (w_load B c 1 1) $$ Hs1
  iintro Hs1
  iapply Hk
  isplitl [HX]; · iexact HX
  isplitl [HY]; · iexact HY
  isplitl [Hv]; · iexact Hv
  isplitl [HO]; · iexact HO
  isplitl [Hw0]; · iexact Hw0
  isplitl [H0]; · iexact H0
  isplitl [Hs1]; · iexact Hs1
  isplitl [Hb2]; · iexact Hb2
  iexact Hv1

/-- Converting the second and third weight rows. -/
theorem part3 {k : (FVec F S512x2048 .bf16) → Prog (TpuEff nD τ sig (Elt F) Λ₀ .tc) α} {f f'} :
    know A B κ
      ⊢ iprop(pt c cc0_scratch1 (wrows (1 : Fin 4).val) fullShare f
        -∗ pt c cc0_scratch0 (slot (1 : Fin 2).val) fullShare (WS B c 1)
        -∗ pt c main_arg1 Finset.univ fullShare.right (B c)
        -∗ semVal (dC c (wsm 1)) 0
        -∗ wmove B c 0 2 fullShare.left
        -∗ pt c cc0_scratch1 (wrows (2 : Fin 4).val) fullShare f'
        -∗ ow c (owe c 0 0)
        -∗ ((pt c cc0_scratch1 (wrows (1 : Fin 4).val) fullShare (WB B c)
            ∗ pt c cc0_scratch1 (wrows (2 : Fin 4).val) fullShare (WB B c)
            ∗ pt c cc0_scratch0 (slot (0 : Fin 2).val) fullShare (WS B c 2)
            ∗ pt c cc0_scratch0 (slot (1 : Fin 2).val) fullShare (WS B c 3)
            ∗ pt c main_arg1 Finset.univ fullShare.left (B c)
            ∗ pt c main_arg1 Finset.univ fullShare.right (B c)
            ∗ semVal (dC c (wsm 0)) 0
            ∗ semVal (dC c (wsm 1)) 0
            ∗ ow c (owe c 0 0)) -∗ run c (k (k0_pay4 (WL B c 3))) Q)
        -∗ run c (k0_part3 (Memref.whole main_v1) (Memref.isWhole_whole _) (Memref.whole main_arg1) (Memref.isWhole_whole _) (Memref.whole main_v2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c (WL B c 1) >>= k) Q) := by
  iintro #HK Hw1 Hs1 Hb2 Hv1 H0 Hw2 HO Hk
  simp only [k0_part3_eq_skeleton]; unfold k0_part3_skel
  simp only [Prog.lift, Prog.bind_op, Prog.bind_ret, Prog.pure_eq_ret]
  iapply (wb_store B c 1 rfl (pay2_val B c 1)) $$ Hw1
  iintro Hw1
  iapply (w_start B c 1 3 (off := k0_off5 c) (k0_off5_eq c)) $$ Hb2 Hs1 Hv1
  iintro H1
  iapply (w_wait A B κ c 0) $$ HK H0 HO
  iintro ⟨⟨Hs0, Hb1⟩, Hv0, HO⟩
  iapply (w_load B c 0 2) $$ Hs0
  iintro Hs0
  iapply (wb_store B c 2 rfl (pay3_val B c 2)) $$ Hw2
  iintro Hw2
  iapply (w_wait A B κ c 1) $$ HK H1 HO
  iintro ⟨⟨Hs1, Hb2⟩, Hv1, HO⟩
  iapply (w_load B c 1 3) $$ Hs1
  iintro Hs1
  iapply Hk
  isplitl [Hw1]; · iexact Hw1
  isplitl [Hw2]; · iexact Hw2
  isplitl [Hs0]; · iexact Hs0
  isplitl [Hs1]; · iexact Hs1
  isplitl [Hb1]; · iexact Hb1
  isplitl [Hb2]; · iexact Hb2
  isplitl [Hv0]; · iexact Hv0
  isplitl [Hv1]; · iexact Hv1
  iexact HO

/-- The last weight rows; slab 0 of what the other row asked for is computed and sent. -/
theorem part4 {k : (FVec F S512x2048 .bf16) → Prog (TpuEff nD τ sig (Elt F) Λ₀ .tc) α} {v5 v6 : BitVec 32} {f f'} :
    know A B κ
      ⊢ iprop(pt c cc0_scratch1 (wrows (0 : Fin 4).val) fullShare (WB B c)
        -∗ pt c cc0_scratch1 (wrows (1 : Fin 4).val) fullShare (WB B c)
        -∗ pt c cc0_scratch1 (wrows (2 : Fin 4).val) fullShare (WB B c)
        -∗ pt c cc0_scratch1 (wrows (3 : Fin 4).val) fullShare f
        -∗ omove A c (1 - row c) 0
        -∗ ow c (owe c 0 0)
        -∗ xTok c 0
        -∗ rxSlab (F := F) (xp c) 0
        -∗ pt c cc0_scratch3 (slab (0 : Fin 4).val) fullShare f'
        -∗ ((pt c cc0_scratch1 Finset.univ fullShare (WB B c)
            ∗ omove A c (1 - row c) 1
            ∗ cred (tallyAt (dC c (sxs 0)) () N1)
            ∗ ow c (owe c 1 0)) -∗ run c (k (k0_pay8 (OT A c (1 - row c) 0) (WB B c))) Q)
        -∗ run c (k0_part4 (Memref.whole main_v1) (Memref.isWhole_whole _) (Memref.whole main_arg1) (Memref.isWhole_whole _) (Memref.whole main_v2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v5 v6 (k0_pay4 (WL B c 3)) >>= k) Q) := by
  iintro #HK Hw0 Hw1 Hw2 Hw3 H2 HO Htok Hrx Hs Hk
  simp only [k0_part4_eq_skeleton]; unfold k0_part4_skel
  simp only [Prog.lift, Prog.bind_op, Prog.bind_ret, Prog.pure_eq_ret]
  iapply (wb_store B c 3 rfl (pay5_val B c 3)) $$ Hw3
  iintro Hw3
  ihave Hw := (wb_join B c) $$ [Hw0 Hw1 Hw2 Hw3]
  · isplitl [Hw0]; · iexact Hw0
    isplitl [Hw1]; · iexact Hw1
    isplitl [Hw2] <;> iassumption
  iapply (o_wait A B κ c) $$ HK H2 HO
  iintro ⟨⟨Ht, Ha⟩, Hv, HO⟩
  iapply (o_load c (OT A c (1 - row c) 0)) $$ Ht
  iintro Ht
  iapply (o_start A c (1 - row c) 1 (off := k0_off6 c) ((k0_off6_eq c).trans (by rw [other_row c]))) $$ Ha Ht Hv
  iintro H2
  iapply (wb_load B c) $$ Hw
  iintro Hw
  iapply (sx_store A B c 0 rfl (pay7_val A B c)) $$ Hs
  iintro Hs
  iapply (x_send A B κ c 0 0 1 rfl rfl (c' := ⟨k0_dev3 c, k0_dev3_lt c⟩) (Fin.ext (k0_dev3_eq c))) $$ HK Htok Hrx Hs HO
  iintro ⟨Hc, HO⟩
  iapply Hk
  isplitl [Hw]; · iexact Hw
  isplitl [H2]; · iexact H2
  isplitl [Hc]; · iexact Hc
  iexact HO

/-- Slab 1 is sent, and slab 2 computed. -/
theorem part5 {k : (Σ' (v132 : FVec F S1024x2048 .f32), BitVec 32) → Prog (TpuEff nD τ sig (Elt F) Λ₀ .tc) α} {v5 v6 : BitVec 32} {f f'} :
    know A B κ
      ⊢ iprop(pt c cc0_scratch3 (slab (1 : Fin 4).val) fullShare f
        -∗ xTok c 1
        -∗ rxSlab (F := F) (xp c) 1
        -∗ ow c (owe c 1 0)
        -∗ omove A c (1 - row c) 1
        -∗ pt c cc0_scratch1 Finset.univ fullShare (WB B c)
        -∗ pt c cc0_scratch3 (slab (2 : Fin 4).val) fullShare f'
        -∗ (∀ v138, (cred (tallyAt (dC c (sxs 1)) () N1)
            ∗ ow c (owe c 2 0)
            ∗ pt c cc0_scratch2 Finset.univ fullShare (OT A c (1 - row c) 1)
            ∗ pt c main_v1 Finset.univ fullShare (A c)
            ∗ semVal (dC c osm) 0
            ∗ pt c cc0_scratch1 Finset.univ fullShare (WB B c)
            ∗ pt c cc0_scratch3 (slab (2 : Fin 4).val) fullShare (SX A B c)) -∗ run c (k ⟨k0_pay10 (OT A c (1 - row c) 1) (WB B c), v138⟩) Q)
        -∗ run c (k0_part5 (Memref.whole main_v1) (Memref.isWhole_whole _) (Memref.whole main_arg1) (Memref.isWhole_whole _) (Memref.whole main_v2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v5 v6 (k0_pay8 (OT A c (1 - row c) 0) (WB B c)) >>= k) Q) := by
  iintro #HK Hs Htok Hrx HO H2 Hw Hs2 Hk
  simp only [k0_part5_eq_skeleton]; unfold k0_part5_skel
  simp only [Prog.lift, Prog.bind_op, Prog.bind_ret, Prog.pure_eq_ret]
  iapply (sx_store A B c 1 rfl (pay9_val A B c)) $$ Hs
  iintro Hs
  iapply (x_send A B κ c 1 1 2 rfl rfl (c' := ⟨k0_dev4 c, k0_dev4_lt c⟩) (Fin.ext (k0_dev4_eq c))) $$ HK Htok Hrx Hs HO
  iintro ⟨Hc, HO⟩
  iapply (o_wait A B κ c) $$ HK H2 HO
  iintro ⟨⟨Ht, Ha⟩, Hv, HO⟩
  iapply (o_load c (OT A c (1 - row c) 1)) $$ Ht
  iintro Ht
  iapply (wb_load B c) $$ Hw
  iintro Hw
  iapply (sx_store A B c 2 rfl (pay11_val A B c)) $$ Hs2
  iintro Hs2
  iapply Hk
  isplitl [Hc]; · iexact Hc
  isplitl [HO]; · iexact HO
  isplitl [Ht]; · iexact Ht
  isplitl [Ha]; · iexact Ha
  isplitl [Hv]; · iexact Hv
  isplitl [Hw]; · iexact Hw
  iexact Hs2

/-- Slabs 2 and 3 are sent, and this device's own rows staged. -/
theorem part6 {k : (PUnit) → Prog (TpuEff nD τ sig (Elt F) Λ₀ .tc) α} {v5 v6 v138 : BitVec 32} {f} :
    know A B κ
      ⊢ iprop(pt c cc0_scratch3 (slab (2 : Fin 4).val) fullShare (SX A B c)
        -∗ xTok c 2
        -∗ rxSlab (F := F) (xp c) 2
        -∗ pt c cc0_scratch3 (slab (3 : Fin 4).val) fullShare f
        -∗ xTok c 3
        -∗ rxSlab (F := F) (xp c) 3
        -∗ ow c (owe c 2 0)
        -∗ pt c cc0_scratch2 Finset.univ fullShare (OT A c (1 - row c) 1)
        -∗ pt c main_v1 Finset.univ fullShare (A c)
        -∗ semVal (dC c osm) 0
        -∗ ((cred (tallyAt (dC c (sxs 2)) () N1)
            ∗ cred (tallyAt (dC c (sxs 3)) () N1)
            ∗ ow c (owe c 4 0)
            ∗ pt c cc0_scratch2 Finset.univ fullShare (OT A c (row c) 0)
            ∗ pt c main_v1 Finset.univ fullShare (A c)
            ∗ semVal (dC c osm) 0) -∗ run c (k ⟨⟩) Q)
        -∗ run c (k0_part6 (Memref.whole main_v1) (Memref.isWhole_whole _) (Memref.whole main_arg1) (Memref.isWhole_whole _) (Memref.whole main_v2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v5 v6 (k0_pay10 (OT A c (1 - row c) 1) (WB B c)) v138 >>= k) Q) := by
  iintro #HK Hs2 Htok Hrx Hs3 Htok' Hrx' HO Ht Ha Hv Hk
  simp only [k0_part6_eq_skeleton]; unfold k0_part6_skel
  simp only [Prog.lift, Prog.bind_op, Prog.bind_ret, Prog.pure_eq_ret]
  iapply (x_send A B κ c 2 2 3 rfl rfl (c' := ⟨k0_dev5 c, k0_dev5_lt c⟩) (Fin.ext (k0_dev5_eq c))) $$ HK Htok Hrx Hs2 HO
  iintro ⟨Hc, HO⟩
  iapply (sx_store A B c 3 rfl (pay12_val A B c)) $$ Hs3
  iintro Hs3
  iapply (x_send A B κ c 3 3 4 rfl rfl (c' := ⟨k0_dev6 c, k0_dev6_lt c⟩) (Fin.ext (k0_dev6_eq c))) $$ HK Htok' Hrx' Hs3 HO
  iintro ⟨Hc', HO⟩
  iapply (o_start A c (row c) 0 (off := k0_off7 c) (k0_off7_eq c)) $$ Ha Ht Hv
  iintro H2
  iapply (o_wait A B κ c) $$ HK H2 HO
  iintro ⟨⟨Ht, Ha⟩, Hv, HO⟩
  iapply Hk
  isplitl [Hc]; · iexact Hc
  isplitl [Hc']; · iexact Hc'
  isplitl [HO]; · iexact HO
  isplitl [Ht]; · iexact Ht
  isplitl [Ha]; · iexact Ha
  iexact Hv

/-- The own products of slabs 0 and 1; slab 0 has arrived from the other row. -/
theorem part7 {k : (Σ' (v174 : FVec F S1024x2048 .f32), FVec F S256x2048 .f32) → Prog (TpuEff nD τ sig (Elt F) Λ₀ .tc) α} {v5 v6 : BitVec 32} :
    know A B κ
      ⊢ iprop(pt c cc0_scratch2 Finset.univ fullShare (OT A c (row c) 0)
        -∗ pt c main_v1 Finset.univ fullShare (A c)
        -∗ semVal (dC c osm) 0
        -∗ pt c cc0_scratch1 Finset.univ fullShare (WB B c)
        -∗ atPos ER (dC c (sxs 0)) 0 ∅ 0
        -∗ cred (tallyAt (dC c (sxs 0)) () N1)
        -∗ atPos ER (dC c (rxs 0)) 0 ∅ 0
        -∗ cred (tallyAt (dC c (rxs 0)) () N1)
        -∗ ow c (owe c 4 0)
        -∗ ((omove A c (row c) 1
            ∗ pt c cc0_scratch1 Finset.univ fullShare (WB B c)
            ∗ pt c cc0_scratch3 (rows (0 : Fin 8).val) fullShare (SX A B c)
            ∗ pt c cc0_scratch3 (rows (1 : Fin 8).val) fullShare (SX A B c)
            ∗ semVal (dC c (sxs 0)) 0
            ∗ pt c cc0_scratch4 (slab (0 : Fin 4).val) fullShare (SX A B (xp c))
            ∗ semVal (dC c (rxs 0)) 0
            ∗ ow c (owe c 4 0)) -∗ run c (k ⟨PR A B c (row c) 0, k0_pay14 (OT A c (row c) 0) (WB B c) (RXL A B c 0)⟩) Q)
        -∗ run c (k0_part7 (Memref.whole main_v1) (Memref.isWhole_whole _) (Memref.whole main_arg1) (Memref.isWhole_whole _) (Memref.whole main_v2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v5 v6 >>= k) Q) := by
  iintro #HK Ht Ha Hv Hw Has Hcs Har Hcr HO Hk
  simp only [k0_part7_eq_skeleton]; unfold k0_part7_skel
  simp only [Prog.lift, Prog.bind_op, Prog.bind_ret, Prog.pure_eq_ret]
  iapply (o_load c (OT A c (row c) 0)) $$ Ht
  iintro Ht
  iapply (o_start A c (row c) 1 (off := k0_off8 c) (k0_off8_eq c)) $$ Ha Ht Hv
  iintro H2
  iapply (wb_load B c) $$ Hw
  iintro Hw
  iapply (sx_wait A B κ c 0 0 1 rfl rfl) $$ HK Has Hcs HO
  iintro ⟨Hs0, Hs1, Hsv, HO⟩
  iapply (rx_wait A B κ c 0) $$ HK Har Hcr HO
  iintro ⟨Hr, Hrv, HO⟩
  iapply (rx_load A B c 0 0 rfl rfl) $$ Hr
  iintro Hr
  iapply Hk
  isplitl [H2]; · iexact H2
  isplitl [Hw]; · iexact Hw
  isplitl [Hs0]; · iexact Hs0
  isplitl [Hs1]; · iexact Hs1
  isplitl [Hsv]; · iexact Hsv
  isplitl [Hr]; · iexact Hr
  isplitl [Hrv]; · iexact Hrv
  iexact HO

/-- Half-slab 0 goes to the other column, and half-slab 1 is computed. -/
theorem part8 {k : (PUnit) → Prog (TpuEff nD τ sig (Elt F) Λ₀ .tc) α} {v2 v7 : BitVec 32} {f f'} :
    know A B κ
      ⊢ iprop(pt c cc0_scratch3 (rows (0 : Fin 8).val) fullShare f
        -∗ pt c cc0_scratch3 (rows (1 : Fin 8).val) fullShare f'
        -∗ yTok c 0
        -∗ outRows (F := F) (yp c) 0
        -∗ pt c cc0_scratch4 (slab (0 : Fin 4).val) fullShare (SX A B (xp c))
        -∗ ow c (owe c 4 0)
        -∗ ((cred (tallyAt (dC c (sys 0)) () N2)
            ∗ pt c cc0_scratch3 (rows (0 : Fin 8).val) fullShare.right (SY A B c)
            ∗ pt c cc0_scratch3 (rows (1 : Fin 8).val) fullShare (SY A B c)
            ∗ pt c cc0_scratch4 (slab (0 : Fin 4).val) fullShare (SX A B (xp c))
            ∗ ow c (owe c 4 1)) -∗ run c (k ⟨⟩) Q)
        -∗ run c (k0_part8 (Memref.whole main_v1) (Memref.isWhole_whole _) (Memref.whole main_arg1) (Memref.isWhole_whole _) (Memref.whole main_v2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2 v7 (PR A B c (row c) 0) (k0_pay14 (OT A c (row c) 0) (WB B c) (RXL A B c 0)) >>= k) Q) := by
  iintro #HK Hs0 Hs1 Htok Hou Hr HO Hk
  simp only [k0_part8_eq_skeleton]; unfold k0_part8_skel
  simp only [Prog.lift, Prog.bind_op, Prog.bind_ret, Prog.pure_eq_ret]
  iapply (sy_store A B c 0 rfl (pay15_val A B c)) $$ Hs0
  iintro Hs0
  iapply (y_send A B κ c 0 0 1 rfl rfl (c' := ⟨k0_dev7 c, k0_dev7_lt c⟩) (Fin.ext (k0_dev7_eq c)) rfl (off := k0_off9 c) (k0_off9_eq c)) $$ HK Htok Hou Hs0 HO
  iintro ⟨Hc, Hs0, HO⟩
  iapply (rx_load A B c 0 1 rfl rfl) $$ Hr
  iintro Hr
  iapply (sy_store A B c 1 rfl (pay16_val A B c)) $$ Hs1
  iintro Hs1
  iapply Hk
  isplitl [Hc]; · iexact Hc
  isplitl [Hs0]; · iexact Hs0
  isplitl [Hs1]; · iexact Hs1
  isplitl [Hr]; · iexact Hr
  iexact HO

/-- Half-slab 1 goes to the other column; slab 0 into this device's own half of the result. -/
theorem part9 {k : (PUnit) → Prog (TpuEff nD τ sig (Elt F) Λ₀ .tc) α} {v5 v6 : BitVec 32} {f} :
    know A B κ
      ⊢ iprop(yTok c 1
        -∗ outRows (F := F) (yp c) 1
        -∗ pt c cc0_scratch3 (rows (0 : Fin 8).val) fullShare.right (SY A B c)
        -∗ pt c cc0_scratch3 (rows (1 : Fin 8).val) fullShare (SY A B c)
        -∗ pt c main_v2 (oslab (col c) (0 : Fin 4).val) fullShare f
        -∗ semVal (dC c (ssm 0)) 0
        -∗ atPos ER (dC c (sxs 1)) 0 ∅ 0
        -∗ cred (tallyAt (dC c (sxs 1)) () N1)
        -∗ ow c (owe c 4 1)
        -∗ ((cred (tallyAt (dC c (sys 1)) () N2)
            ∗ smove A B c 0
            ∗ pt c cc0_scratch3 (rows (2 : Fin 8).val) fullShare (SX A B c)
            ∗ pt c cc0_scratch3 (rows (3 : Fin 8).val) fullShare (SX A B c)
            ∗ semVal (dC c (sxs 1)) 0
            ∗ ow c (owe c 4 2)) -∗ run c (k ⟨⟩) Q)
        -∗ run c (k0_part9 (Memref.whole main_v1) (Memref.isWhole_whole _) (Memref.whole main_arg1) (Memref.isWhole_whole _) (Memref.whole main_v2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v5 v6 >>= k) Q) := by
  iintro #HK Htok Hou Hs0 Hs1 Hd Hv Has Hcs HO Hk
  simp only [k0_part9_eq_skeleton]; unfold k0_part9_skel
  simp only [Prog.lift, Prog.bind_op, Prog.bind_ret, Prog.pure_eq_ret]
  iapply (y_send A B κ c 1 1 2 rfl rfl (c' := ⟨k0_dev8 c, k0_dev8_lt c⟩) (Fin.ext (k0_dev8_eq c)) rfl (off := k0_off10 c) (k0_off10_eq c)) $$ HK Htok Hou Hs1 HO
  iintro ⟨Hc, Hs1, HO⟩
  iapply (s_start A B c 0 0 1 rfl rfl (off := k0_off11 c) (k0_off11_eq c)) $$ Hs0 Hs1 Hd Hv
  iintro Hm
  iapply (sx_wait A B κ c 1 2 3 rfl rfl) $$ HK Has Hcs HO
  iintro ⟨Hs0, Hs1, Hsv, HO⟩
  iapply Hk
  isplitl [Hc]; · iexact Hc
  isplitl [Hm]; · iexact Hm
  isplitl [Hs0]; · iexact Hs0
  isplitl [Hs1]; · iexact Hs1
  isplitl [Hsv]; · iexact Hsv
  iexact HO

/-- Slab 1 has arrived from the other row; half-slab 2 goes to the other column, and half-slab 3 is computed. -/
theorem part10 {k : (PUnit) → Prog (TpuEff nD τ sig (Elt F) Λ₀ .tc) α} {v2 v7 : BitVec 32} {f f'} :
    know A B κ
      ⊢ iprop(atPos ER (dC c (rxs 1)) 0 ∅ 0
        -∗ cred (tallyAt (dC c (rxs 1)) () N1)
        -∗ pt c cc0_scratch3 (rows (2 : Fin 8).val) fullShare f
        -∗ pt c cc0_scratch3 (rows (3 : Fin 8).val) fullShare f'
        -∗ yTok c 2
        -∗ outRows (F := F) (yp c) 2
        -∗ ow c (owe c 4 2)
        -∗ ((pt c cc0_scratch4 (slab (1 : Fin 4).val) fullShare (SX A B (xp c))
            ∗ semVal (dC c (rxs 1)) 0
            ∗ cred (tallyAt (dC c (sys 2)) () N2)
            ∗ pt c cc0_scratch3 (rows (2 : Fin 8).val) fullShare.right (SY A B c)
            ∗ pt c cc0_scratch3 (rows (3 : Fin 8).val) fullShare (SY A B c)
            ∗ ow c (owe c 4 3)) -∗ run c (k ⟨⟩) Q)
        -∗ run c (k0_part10 (Memref.whole main_v1) (Memref.isWhole_whole _) (Memref.whole main_arg1) (Memref.isWhole_whole _) (Memref.whole main_v2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2 v7 (PR A B c (row c) 0) >>= k) Q) := by
  iintro #HK Har Hcr Hs0 Hs1 Htok Hou HO Hk
  simp only [k0_part10_eq_skeleton]; unfold k0_part10_skel
  simp only [Prog.lift, Prog.bind_op, Prog.bind_ret, Prog.pure_eq_ret]
  iapply (rx_wait A B κ c 1) $$ HK Har Hcr HO
  iintro ⟨Hr, Hrv, HO⟩
  iapply (rx_load A B c 1 2 rfl rfl) $$ Hr
  iintro Hr
  iapply (sy_store A B c 2 rfl (pay17_val A B c)) $$ Hs0
  iintro Hs0
  iapply (y_send A B κ c 2 2 3 rfl rfl (c' := ⟨k0_dev9 c, k0_dev9_lt c⟩) (Fin.ext (k0_dev9_eq c)) rfl (off := k0_off12 c) (k0_off12_eq c)) $$ HK Htok Hou Hs0 HO
  iintro ⟨Hc, Hs0, HO⟩
  iapply (rx_load A B c 1 3 rfl rfl) $$ Hr
  iintro Hr
  iapply (sy_store A B c 3 rfl (pay18_val A B c)) $$ Hs1
  iintro Hs1
  iapply Hk
  isplitl [Hr]; · iexact Hr
  isplitl [Hrv]; · iexact Hrv
  isplitl [Hc]; · iexact Hc
  isplitl [Hs0]; · iexact Hs0
  isplitl [Hs1]; · iexact Hs1
  iexact HO

/-- Half-slab 3 goes to the other column, slab 1 into the own half; the own products of slabs 2 and 3. -/
theorem part11 {k : (FVec F S1024x2048 .f32) → Prog (TpuEff nD τ sig (Elt F) Λ₀ .tc) α} {v2 v7 : BitVec 32} {f} :
    know A B κ
      ⊢ iprop(yTok c 3
        -∗ outRows (F := F) (yp c) 3
        -∗ pt c cc0_scratch3 (rows (2 : Fin 8).val) fullShare.right (SY A B c)
        -∗ pt c cc0_scratch3 (rows (3 : Fin 8).val) fullShare (SY A B c)
        -∗ pt c main_v2 (oslab (col c) (1 : Fin 4).val) fullShare f
        -∗ semVal (dC c (ssm 1)) 0
        -∗ omove A c (row c) 1
        -∗ pt c cc0_scratch1 Finset.univ fullShare (WB B c)
        -∗ ow c (owe c 4 3)
        -∗ ((cred (tallyAt (dC c (sys 3)) () N2)
            ∗ smove A B c 1
            ∗ pt c cc0_scratch2 Finset.univ fullShare (OT A c (row c) 1)
            ∗ pt c main_v1 Finset.univ fullShare (A c)
            ∗ semVal (dC c osm) 0
            ∗ pt c cc0_scratch1 Finset.univ fullShare (WB B c)
            ∗ ow c (owe c 4 4)) -∗ run c (k (PR A B c (row c) 1)) Q)
        -∗ run c (k0_part11 (Memref.whole main_v1) (Memref.isWhole_whole _) (Memref.whole main_arg1) (Memref.isWhole_whole _) (Memref.whole main_v2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2 v7 >>= k) Q) := by
  iintro #HK Htok Hou Hs0 Hs1 Hd Hvs H2 Hw HO Hk
  simp only [k0_part11_eq_skeleton]; unfold k0_part11_skel
  simp only [Prog.lift, Prog.bind_op, Prog.bind_ret, Prog.pure_eq_ret]
  iapply (y_send A B κ c 3 3 4 rfl rfl (c' := ⟨k0_dev10 c, k0_dev10_lt c⟩) (Fin.ext (k0_dev10_eq c)) rfl (off := k0_off13 c) (k0_off13_eq c)) $$ HK Htok Hou Hs1 HO
  iintro ⟨Hc, Hs1, HO⟩
  iapply (s_start A B c 1 2 3 rfl rfl (off := k0_off14 c) (k0_off14_eq c)) $$ Hs0 Hs1 Hd Hvs
  iintro Hm
  iapply (o_wait A B κ c) $$ HK H2 HO
  iintro ⟨⟨Ht, Ha⟩, Hv, HO⟩
  iapply (o_load c (OT A c (row c) 1)) $$ Ht
  iintro Ht
  iapply (wb_load B c) $$ Hw
  iintro Hw
  iapply Hk
  isplitl [Hc]; · iexact Hc
  isplitl [Hm]; · iexact Hm
  isplitl [Ht]; · iexact Ht
  isplitl [Ha]; · iexact Ha
  isplitl [Hv]; · iexact Hv
  isplitl [Hw]; · iexact Hw
  iexact HO

/-- Slab 2 has arrived from the other row, and half-slab 4 is computed. -/
theorem part12 {k : (PUnit) → Prog (TpuEff nD τ sig (Elt F) Λ₀ .tc) α} {v2 v5 v6 v7 : BitVec 32} :
    know A B κ
      ⊢ iprop(atPos ER (dC c (sxs 2)) 0 ∅ 0
        -∗ cred (tallyAt (dC c (sxs 2)) () N1)
        -∗ atPos ER (dC c (rxs 2)) 0 ∅ 0
        -∗ cred (tallyAt (dC c (rxs 2)) () N1)
        -∗ ow c (owe c 4 4)
        -∗ ((pt c cc0_scratch3 (rows (4 : Fin 8).val) fullShare (SY A B c)
            ∗ pt c cc0_scratch3 (rows (5 : Fin 8).val) fullShare (SX A B c)
            ∗ semVal (dC c (sxs 2)) 0
            ∗ pt c cc0_scratch4 (slab (2 : Fin 4).val) fullShare (SX A B (xp c))
            ∗ semVal (dC c (rxs 2)) 0
            ∗ ow c (owe c 4 4)) -∗ run c (k ⟨⟩) Q)
        -∗ run c (k0_part12 (Memref.whole main_v1) (Memref.isWhole_whole _) (Memref.whole main_arg1) (Memref.isWhole_whole _) (Memref.whole main_v2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2 v5 v6 v7 (PR A B c (row c) 1) >>= k) Q) := by
  iintro #HK Has Hcs Har Hcr HO Hk
  simp only [k0_part12_eq_skeleton]; unfold k0_part12_skel
  simp only [Prog.lift, Prog.bind_op, Prog.bind_ret, Prog.pure_eq_ret]
  iapply (sx_wait A B κ c 2 4 5 rfl rfl) $$ HK Has Hcs HO
  iintro ⟨Hs0, Hs1, Hsv, HO⟩
  iapply (rx_wait A B κ c 2) $$ HK Har Hcr HO
  iintro ⟨Hr, Hrv, HO⟩
  iapply (rx_load A B c 2 4 rfl rfl) $$ Hr
  iintro Hr
  iapply (sy_store A B c 4 rfl (pay20_val A B c)) $$ Hs0
  iintro Hs0
  iapply Hk
  isplitl [Hs0]; · iexact Hs0
  isplitl [Hs1]; · iexact Hs1
  isplitl [Hsv]; · iexact Hsv
  isplitl [Hr]; · iexact Hr
  isplitl [Hrv]; · iexact Hrv
  iexact HO

/-- Half-slabs 4 and 5 go to the other column, slab 2 into the own half. -/
theorem part13 {k : (PUnit) → Prog (TpuEff nD τ sig (Elt F) Λ₀ .tc) α} {v2 v7 : BitVec 32} {f f'} :
    know A B κ
      ⊢ iprop(yTok c 4
        -∗ outRows (F := F) (yp c) 4
        -∗ pt c cc0_scratch3 (rows (4 : Fin 8).val) fullShare (SY A B c)
        -∗ pt c cc0_scratch4 (slab (2 : Fin 4).val) fullShare (SX A B (xp c))
        -∗ pt c cc0_scratch3 (rows (5 : Fin 8).val) fullShare f
        -∗ yTok c 5
        -∗ outRows (F := F) (yp c) 5
        -∗ pt c main_v2 (oslab (col c) (2 : Fin 4).val) fullShare f'
        -∗ semVal (dC c (ssm 2)) 0
        -∗ ow c (owe c 4 4)
        -∗ ((cred (tallyAt (dC c (sys 4)) () N2)
            ∗ cred (tallyAt (dC c (sys 5)) () N2)
            ∗ pt c cc0_scratch4 (slab (2 : Fin 4).val) fullShare (SX A B (xp c))
            ∗ smove A B c 2
            ∗ ow c (owe c 4 6)) -∗ run c (k ⟨⟩) Q)
        -∗ run c (k0_part13 (Memref.whole main_v1) (Memref.isWhole_whole _) (Memref.whole main_arg1) (Memref.isWhole_whole _) (Memref.whole main_v2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2 v7 (PR A B c (row c) 1) >>= k) Q) := by
  iintro #HK Htok Hou Hs0 Hr Hs1 Htok' Hou' Hd Hvs HO Hk
  simp only [k0_part13_eq_skeleton]; unfold k0_part13_skel
  simp only [Prog.lift, Prog.bind_op, Prog.bind_ret, Prog.pure_eq_ret]
  iapply (y_send A B κ c 4 4 5 rfl rfl (c' := ⟨k0_dev11 c, k0_dev11_lt c⟩) (Fin.ext (k0_dev11_eq c)) rfl (off := k0_off15 c) (k0_off15_eq c)) $$ HK Htok Hou Hs0 HO
  iintro ⟨Hc, Hs0, HO⟩
  iapply (rx_load A B c 2 5 rfl rfl) $$ Hr
  iintro Hr
  iapply (sy_store A B c 5 rfl (pay21_val A B c)) $$ Hs1
  iintro Hs1
  iapply (y_send A B κ c 5 5 6 rfl rfl (c' := ⟨k0_dev12 c, k0_dev12_lt c⟩) (Fin.ext (k0_dev12_eq c)) rfl (off := k0_off16 c) (k0_off16_eq c)) $$ HK Htok' Hou' Hs1 HO
  iintro ⟨Hc', Hs1, HO⟩
  iapply (s_start A B c 2 4 5 rfl rfl (off := k0_off17 c) (k0_off17_eq c)) $$ Hs0 Hs1 Hd Hvs
  iintro Hm
  iapply Hk
  isplitl [Hc]; · iexact Hc
  isplitl [Hc']; · iexact Hc'
  isplitl [Hr]; · iexact Hr
  isplitl [Hm]; · iexact Hm
  iexact HO

/-- Slab 3 has arrived from the other row, and half-slab 6 is computed. -/
theorem part14 {k : (Σ' (v399 : BitVec 32), BitVec 32) → Prog (TpuEff nD τ sig (Elt F) Λ₀ .tc) α} {v2 v5 v6 v7 : BitVec 32} :
    know A B κ
      ⊢ iprop(atPos ER (dC c (sxs 3)) 0 ∅ 0
        -∗ cred (tallyAt (dC c (sxs 3)) () N1)
        -∗ atPos ER (dC c (rxs 3)) 0 ∅ 0
        -∗ cred (tallyAt (dC c (rxs 3)) () N1)
        -∗ ow c (owe c 4 6)
        -∗ (∀ v399 v400, (pt c cc0_scratch3 (rows (6 : Fin 8).val) fullShare (SY A B c)
            ∗ pt c cc0_scratch3 (rows (7 : Fin 8).val) fullShare (SX A B c)
            ∗ semVal (dC c (sxs 3)) 0
            ∗ pt c cc0_scratch4 (slab (3 : Fin 4).val) fullShare (SX A B (xp c))
            ∗ semVal (dC c (rxs 3)) 0
            ∗ ow c (owe c 4 6)) -∗ run c (k ⟨v399, v400⟩) Q)
        -∗ run c (k0_part14 (Memref.whole main_v1) (Memref.isWhole_whole _) (Memref.whole main_arg1) (Memref.isWhole_whole _) (Memref.whole main_v2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 v2 v5 v6 v7 (PR A B c (row c) 1) >>= k) Q) := by
  iintro #HK Has Hcs Har Hcr HO Hk
  simp only [k0_part14_eq_skeleton]; unfold k0_part14_skel
  simp only [Prog.lift, Prog.bind_op, Prog.bind_ret, Prog.pure_eq_ret]
  iapply (sx_wait A B κ c 3 6 7 rfl rfl) $$ HK Has Hcs HO
  iintro ⟨Hs0, Hs1, Hsv, HO⟩
  iapply (rx_wait A B κ c 3) $$ HK Har Hcr HO
  iintro ⟨Hr, Hrv, HO⟩
  iapply (rx_load A B c 3 6 rfl rfl) $$ Hr
  iintro Hr
  iapply (sy_store A B c 6 rfl (pay22_val A B c)) $$ Hs0
  iintro Hs0
  iapply Hk
  isplitl [Hs0]; · iexact Hs0
  isplitl [Hs1]; · iexact Hs1
  isplitl [Hsv]; · iexact Hsv
  isplitl [Hr]; · iexact Hr
  isplitl [Hrv]; · iexact Hrv
  iexact HO

/-- Half-slabs 6 and 7 go to the other column. -/
theorem part15 {k : (PUnit) → Prog (TpuEff nD τ sig (Elt F) Λ₀ .tc) α} {v2 v7 v399 v400 : BitVec 32} {f} :
    know A B κ
      ⊢ iprop(yTok c 6
        -∗ outRows (F := F) (yp c) 6
        -∗ pt c cc0_scratch3 (rows (6 : Fin 8).val) fullShare (SY A B c)
        -∗ pt c cc0_scratch4 (slab (3 : Fin 4).val) fullShare (SX A B (xp c))
        -∗ pt c cc0_scratch3 (rows (7 : Fin 8).val) fullShare f
        -∗ yTok c 7
        -∗ outRows (F := F) (yp c) 7
        -∗ ow c (owe c 4 6)
        -∗ ((cred (tallyAt (dC c (sys 6)) () N2)
            ∗ cred (tallyAt (dC c (sys 7)) () N2)
            ∗ pt c cc0_scratch4 (slab (3 : Fin 4).val) fullShare (SX A B (xp c))
            ∗ pt c cc0_scratch3 (rows (6 : Fin 8).val) fullShare.right (SY A B c)
            ∗ pt c cc0_scratch3 (rows (7 : Fin 8).val) fullShare.right (SY A B c)
            ∗ ow c (owe c 4 8)) -∗ run c (k ⟨⟩) Q)
        -∗ run c (k0_part15 (Memref.whole main_v1) (Memref.isWhole_whole _) (Memref.whole main_arg1) (Memref.isWhole_whole _) (Memref.whole main_v2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2 v7 (PR A B c (row c) 1) v399 v400 >>= k) Q) := by
  iintro #HK Htok Hou Hs0 Hr Hs1 Htok' Hou' HO Hk
  simp only [k0_part15_eq_skeleton]; unfold k0_part15_skel
  simp only [Prog.lift, Prog.bind_op, Prog.bind_ret, Prog.pure_eq_ret]
  iapply (y_send A B κ c 6 6 7 rfl rfl (c' := ⟨k0_dev13 c, k0_dev13_lt c⟩) (Fin.ext (k0_dev13_eq c)) rfl (off := k0_off18 c) (k0_off18_eq c)) $$ HK Htok Hou Hs0 HO
  iintro ⟨Hc, Hs0, HO⟩
  iapply (rx_load A B c 3 7 rfl rfl) $$ Hr
  iintro Hr
  iapply (sy_store A B c 7 rfl (pay23_val A B c)) $$ Hs1
  iintro Hs1
  iapply (y_send A B κ c 7 7 8 rfl rfl (c' := ⟨k0_dev14 c, k0_dev14_lt c⟩) (Fin.ext (k0_dev14_eq c)) rfl (off := k0_off19 c) (k0_off19_eq c)) $$ HK Htok' Hou' Hs1 HO
  iintro ⟨Hc', Hs1, HO⟩
  iapply Hk
  isplitl [Hc]; · iexact Hc
  isplitl [Hc']; · iexact Hc'
  isplitl [Hr]; · iexact Hr
  isplitl [Hs0]; · iexact Hs0
  isplitl [Hs1]; · iexact Hs1
  iexact HO

/-- Slab 3 into the own half; waiting for the exchange between the columns begins. -/
theorem part16 {k : (PUnit) → Prog (TpuEff nD τ sig (Elt F) Λ₀ .tc) α} {v2 v7 : BitVec 32} {f} :
    know A B κ
      ⊢ iprop(pt c cc0_scratch3 (rows (6 : Fin 8).val) fullShare.right (SY A B c)
        -∗ pt c cc0_scratch3 (rows (7 : Fin 8).val) fullShare.right (SY A B c)
        -∗ pt c main_v2 (oslab (col c) (3 : Fin 4).val) fullShare f
        -∗ semVal (dC c (ssm 3)) 0
        -∗ atPos ER (dC c (sys 0)) 0 ∅ 0
        -∗ cred (tallyAt (dC c (sys 0)) () N2)
        -∗ atPos ER (dC c (rys 0)) 0 ∅ 0
        -∗ cred (tallyAt (dC c (rys 0)) () N2)
        -∗ atPos ER (dC c (sys 1)) 0 ∅ 0
        -∗ cred (tallyAt (dC c (sys 1)) () N2)
        -∗ ow c (owe c 4 8)
        -∗ ((smove A B c 3
            ∗ pt c cc0_scratch3 (rows (0 : Fin 8).val) fullShare.left (SY A B c)
            ∗ semVal (dC c (sys 0)) 0
            ∗ pt c main_v2 (orows (1 - col c) (0 : Fin 8).val) fullShare (OUT A B c)
            ∗ semVal (dC c (rys 0)) 0
            ∗ pt c cc0_scratch3 (rows (1 : Fin 8).val) fullShare.left (SY A B c)
            ∗ semVal (dC c (sys 1)) 0
            ∗ ow c (owe c 4 8)) -∗ run c (k ⟨⟩) Q)
        -∗ run c (k0_part16 (Memref.whole main_v1) (Memref.isWhole_whole _) (Memref.whole main_arg1) (Memref.isWhole_whole _) (Memref.whole main_v2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2 v7 >>= k) Q) := by
  iintro #HK Hr6 Hr7 Hd Hvs Hs0a Hs0c Hr0a Hr0c Hs1a Hs1c HO Hk
  simp only [k0_part16_eq_skeleton]; unfold k0_part16_skel
  simp only [Prog.lift, Prog.bind_op, Prog.bind_ret, Prog.pure_eq_ret]
  iapply (s_start A B c 3 6 7 rfl rfl (off := k0_off20 c) (k0_off20_eq c)) $$ Hr6 Hr7 Hd Hvs
  iintro Hm
  iapply (sy_wait A B κ c 0) $$ HK Hs0a Hs0c HO
  iintro ⟨Hs0, Hs0v, HO⟩
  iapply (ry_wait A B κ c 0) $$ HK Hr0a Hr0c HO
  iintro ⟨Hr0, Hr0v, HO⟩
  iapply (sy_wait A B κ c 1) $$ HK Hs1a Hs1c HO
  iintro ⟨Hs1, Hs1v, HO⟩
  iapply Hk
  isplitl [Hm]; · iexact Hm
  isplitl [Hs0]; · iexact Hs0
  isplitl [Hs0v]; · iexact Hs0v
  isplitl [Hr0]; · iexact Hr0
  isplitl [Hr0v]; · iexact Hr0v
  isplitl [Hs1]; · iexact Hs1
  isplitl [Hs1v]; · iexact Hs1v
  iexact HO

/-- Waiting for half-slabs 1 (received), 2 (sent), 2 (received). -/
theorem part17 {k : (PUnit) → Prog (TpuEff nD τ sig (Elt F) Λ₀ .tc) α} {v2 v7 : BitVec 32} :
    know A B κ
      ⊢ iprop(atPos ER (dC c (rys 1)) 0 ∅ 0
        -∗ cred (tallyAt (dC c (rys 1)) () N2)
        -∗ atPos ER (dC c (sys 2)) 0 ∅ 0
        -∗ cred (tallyAt (dC c (sys 2)) () N2)
        -∗ atPos ER (dC c (rys 2)) 0 ∅ 0
        -∗ cred (tallyAt (dC c (rys 2)) () N2)
        -∗ ow c (owe c 4 8)
        -∗ ((pt c main_v2 (orows (1 - col c) (1 : Fin 8).val) fullShare (OUT A B c)
            ∗ semVal (dC c (rys 1)) 0
            ∗ pt c cc0_scratch3 (rows (2 : Fin 8).val) fullShare.left (SY A B c)
            ∗ semVal (dC c (sys 2)) 0
            ∗ pt c main_v2 (orows (1 - col c) (2 : Fin 8).val) fullShare (OUT A B c)
            ∗ semVal (dC c (rys 2)) 0
            ∗ ow c (owe c 4 8)) -∗ run c (k ⟨⟩) Q)
        -∗ run c (k0_part17 (Memref.whole main_v1) (Memref.isWhole_whole _) (Memref.whole main_arg1) (Memref.isWhole_whole _) (Memref.whole main_v2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2 v7 >>= k) Q) := by
  iintro #HK Hr1a Hr1c Hs2a Hs2c Hr2a Hr2c HO Hk
  simp only [k0_part17_eq_skeleton]; unfold k0_part17_skel
  simp only [Prog.lift, Prog.bind_op, Prog.bind_ret, Prog.pure_eq_ret]
  iapply (ry_wait A B κ c 1) $$ HK Hr1a Hr1c HO
  iintro ⟨Hr1, Hr1v, HO⟩
  iapply (sy_wait A B κ c 2) $$ HK Hs2a Hs2c HO
  iintro ⟨Hs2, Hs2v, HO⟩
  iapply (ry_wait A B κ c 2) $$ HK Hr2a Hr2c HO
  iintro ⟨Hr2, Hr2v, HO⟩
  iapply Hk
  isplitl [Hr1]; · iexact Hr1
  isplitl [Hr1v]; · iexact Hr1v
  isplitl [Hs2]; · iexact Hs2
  isplitl [Hs2v]; · iexact Hs2v
  isplitl [Hr2]; · iexact Hr2
  isplitl [Hr2v]; · iexact Hr2v
  iexact HO

/-- Waiting for half-slabs 3 (sent), 3 (received), 4 (sent). -/
theorem part18 {k : (PUnit) → Prog (TpuEff nD τ sig (Elt F) Λ₀ .tc) α} {v2 v7 : BitVec 32} :
    know A B κ
      ⊢ iprop(atPos ER (dC c (sys 3)) 0 ∅ 0
        -∗ cred (tallyAt (dC c (sys 3)) () N2)
        -∗ atPos ER (dC c (rys 3)) 0 ∅ 0
        -∗ cred (tallyAt (dC c (rys 3)) () N2)
        -∗ atPos ER (dC c (sys 4)) 0 ∅ 0
        -∗ cred (tallyAt (dC c (sys 4)) () N2)
        -∗ ow c (owe c 4 8)
        -∗ ((pt c cc0_scratch3 (rows (3 : Fin 8).val) fullShare.left (SY A B c)
            ∗ semVal (dC c (sys 3)) 0
            ∗ pt c main_v2 (orows (1 - col c) (3 : Fin 8).val) fullShare (OUT A B c)
            ∗ semVal (dC c (rys 3)) 0
            ∗ pt c cc0_scratch3 (rows (4 : Fin 8).val) fullShare.left (SY A B c)
            ∗ semVal (dC c (sys 4)) 0
            ∗ ow c (owe c 4 8)) -∗ run c (k ⟨⟩) Q)
        -∗ run c (k0_part18 (Memref.whole main_v1) (Memref.isWhole_whole _) (Memref.whole main_arg1) (Memref.isWhole_whole _) (Memref.whole main_v2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2 v7 >>= k) Q) := by
  iintro #HK Hs3a Hs3c Hr3a Hr3c Hs4a Hs4c HO Hk
  simp only [k0_part18_eq_skeleton]; unfold k0_part18_skel
  simp only [Prog.lift, Prog.bind_op, Prog.bind_ret, Prog.pure_eq_ret]
  iapply (sy_wait A B κ c 3) $$ HK Hs3a Hs3c HO
  iintro ⟨Hs3, Hs3v, HO⟩
  iapply (ry_wait A B κ c 3) $$ HK Hr3a Hr3c HO
  iintro ⟨Hr3, Hr3v, HO⟩
  iapply (sy_wait A B κ c 4) $$ HK Hs4a Hs4c HO
  iintro ⟨Hs4, Hs4v, HO⟩
  iapply Hk
  isplitl [Hs3]; · iexact Hs3
  isplitl [Hs3v]; · iexact Hs3v
  isplitl [Hr3]; · iexact Hr3
  isplitl [Hr3v]; · iexact Hr3v
  isplitl [Hs4]; · iexact Hs4
  isplitl [Hs4v]; · iexact Hs4v
  iexact HO

/-- Waiting for half-slabs 4 (received), 5 (sent), 5 (received), 6 (sent). -/
theorem part19 {k : (PUnit) → Prog (TpuEff nD τ sig (Elt F) Λ₀ .tc) α} {v2 v7 : BitVec 32} :
    know A B κ
      ⊢ iprop(atPos ER (dC c (rys 4)) 0 ∅ 0
        -∗ cred (tallyAt (dC c (rys 4)) () N2)
        -∗ atPos ER (dC c (sys 5)) 0 ∅ 0
        -∗ cred (tallyAt (dC c (sys 5)) () N2)
        -∗ atPos ER (dC c (rys 5)) 0 ∅ 0
        -∗ cred (tallyAt (dC c (rys 5)) () N2)
        -∗ atPos ER (dC c (sys 6)) 0 ∅ 0
        -∗ cred (tallyAt (dC c (sys 6)) () N2)
        -∗ ow c (owe c 4 8)
        -∗ ((pt c main_v2 (orows (1 - col c) (4 : Fin 8).val) fullShare (OUT A B c)
            ∗ semVal (dC c (rys 4)) 0
            ∗ pt c cc0_scratch3 (rows (5 : Fin 8).val) fullShare.left (SY A B c)
            ∗ semVal (dC c (sys 5)) 0
            ∗ pt c main_v2 (orows (1 - col c) (5 : Fin 8).val) fullShare (OUT A B c)
            ∗ semVal (dC c (rys 5)) 0
            ∗ pt c cc0_scratch3 (rows (6 : Fin 8).val) fullShare.left (SY A B c)
            ∗ semVal (dC c (sys 6)) 0
            ∗ ow c (owe c 4 8)) -∗ run c (k ⟨⟩) Q)
        -∗ run c (k0_part19 (Memref.whole main_v1) (Memref.isWhole_whole _) (Memref.whole main_arg1) (Memref.isWhole_whole _) (Memref.whole main_v2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2 v7 >>= k) Q) := by
  iintro #HK Hr4a Hr4c Hs5a Hs5c Hr5a Hr5c Hs6a Hs6c HO Hk
  simp only [k0_part19_eq_skeleton]; unfold k0_part19_skel
  simp only [Prog.lift, Prog.bind_op, Prog.bind_ret, Prog.pure_eq_ret]
  iapply (ry_wait A B κ c 4) $$ HK Hr4a Hr4c HO
  iintro ⟨Hr4, Hr4v, HO⟩
  iapply (sy_wait A B κ c 5) $$ HK Hs5a Hs5c HO
  iintro ⟨Hs5, Hs5v, HO⟩
  iapply (ry_wait A B κ c 5) $$ HK Hr5a Hr5c HO
  iintro ⟨Hr5, Hr5v, HO⟩
  iapply (sy_wait A B κ c 6) $$ HK Hs6a Hs6c HO
  iintro ⟨Hs6, Hs6v, HO⟩
  iapply Hk
  isplitl [Hr4]; · iexact Hr4
  isplitl [Hr4v]; · iexact Hr4v
  isplitl [Hs5]; · iexact Hs5
  isplitl [Hs5v]; · iexact Hs5v
  isplitl [Hr5]; · iexact Hr5
  isplitl [Hr5v]; · iexact Hr5v
  isplitl [Hs6]; · iexact Hs6
  isplitl [Hs6v]; · iexact Hs6v
  iexact HO

/-- Waiting for half-slabs 6 (received), 7 (sent), 7 (received). -/
theorem part20 {k : (PUnit) → Prog (TpuEff nD τ sig (Elt F) Λ₀ .tc) α} {v2 v7 : BitVec 32} :
    know A B κ
      ⊢ iprop(atPos ER (dC c (rys 6)) 0 ∅ 0
        -∗ cred (tallyAt (dC c (rys 6)) () N2)
        -∗ atPos ER (dC c (sys 7)) 0 ∅ 0
        -∗ cred (tallyAt (dC c (sys 7)) () N2)
        -∗ atPos ER (dC c (rys 7)) 0 ∅ 0
        -∗ cred (tallyAt (dC c (rys 7)) () N2)
        -∗ ow c (owe c 4 8)
        -∗ ((pt c main_v2 (orows (1 - col c) (6 : Fin 8).val) fullShare (OUT A B c)
            ∗ semVal (dC c (rys 6)) 0
            ∗ pt c cc0_scratch3 (rows (7 : Fin 8).val) fullShare.left (SY A B c)
            ∗ semVal (dC c (sys 7)) 0
            ∗ pt c main_v2 (orows (1 - col c) (7 : Fin 8).val) fullShare (OUT A B c)
            ∗ semVal (dC c (rys 7)) 0
            ∗ ow c (owe c 4 8)) -∗ run c (k ⟨⟩) Q)
        -∗ run c (k0_part20 (Memref.whole main_v1) (Memref.isWhole_whole _) (Memref.whole main_arg1) (Memref.isWhole_whole _) (Memref.whole main_v2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 c v2 v7 >>= k) Q) := by
  iintro #HK Hr6a Hr6c Hs7a Hs7c Hr7a Hr7c HO Hk
  simp only [k0_part20_eq_skeleton]; unfold k0_part20_skel
  simp only [Prog.lift, Prog.bind_op, Prog.bind_ret, Prog.pure_eq_ret]
  iapply (ry_wait A B κ c 6) $$ HK Hr6a Hr6c HO
  iintro ⟨Hr6, Hr6v, HO⟩
  iapply (sy_wait A B κ c 7) $$ HK Hs7a Hs7c HO
  iintro ⟨Hs7, Hs7v, HO⟩
  iapply (ry_wait A B κ c 7) $$ HK Hr7a Hr7c HO
  iintro ⟨Hr7, Hr7v, HO⟩
  iapply Hk
  isplitl [Hr6]; · iexact Hr6
  isplitl [Hr6v]; · iexact Hr6v
  isplitl [Hs7]; · iexact Hs7
  isplitl [Hs7v]; · iexact Hs7v
  isplitl [Hr7]; · iexact Hr7
  isplitl [Hr7v]; · iexact Hr7v
  iexact HO

end Parts

end TwoStage
-- ==== Proof.Body.lean ====
module

public import proofs.«01_k».proof.Proof.Parts

/-!
# The kernel's body

One device's whole run of the body: from its buffers, the tokens of what it must send and the credit for what
it is to receive, to the finished result.
-/

@[expose] public section

noncomputable section

namespace TwoStage

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen

variable {F : FTy → Type} [FloatOps F]

local notation "𝕄" => MT nD τ sig Unit (Elt F) ℕ UU ℕ

section Whole

variable (A : Dev nD → Vec F S4x1024x2048 .f32) (B : Dev nD → Vec F S2048x4096 .f32) (κ : GSem nD τ sig → ℕ)
variable (c : Dev nD)

/-- The tokens of what device `c` signals and sends. -/
def tokens : sProp 𝕄 :=
  iprop(dutyTok ER (barC (xp c)) 0 false ∗ dutyTok ER (barC (yp c)) 0 true
    ∗ (bigSep Finset.univ fun b : Fin 4 => dutyTok ER (dC c (sxs b)) 0 false) ∗ (bigSep Finset.univ fun b : Fin 4 => dutyTok ER (dC (xp c) (rxs b)) 0 false)
    ∗ (bigSep Finset.univ fun i : Fin 8 => dutyTok ER (dC c (sys i)) 0 false) ∗ (bigSep Finset.univ fun i : Fin 8 => dutyTok ER (dC (yp c) (rys i)) 0 false))
/-- The credit for what its peers signal and send it. -/
def credits : sProp 𝕄 :=
  iprop(cred (tallyAt (barC c) () 2) ∗ (bigSep Finset.univ fun b : Fin 4 => cred (tallyAt (dC c (rxs b)) () N1))
    ∗ (bigSep Finset.univ fun i : Fin 8 => cred (tallyAt (dC c (rys i)) () N2)))
/-- Its scheduled transfer semaphores, at their start. -/
def opened : sProp 𝕄 := bigSep Finset.univ fun k : Fin 24 => iprop(atPos ER (dC c (tsem k)) 0 ∅ 0 ∗ reached ER (dC c (tsem k)) 0)
/-- The buffers that live only while the body runs. -/
def scratch : sProp 𝕄 :=
  iprop((∃ f, pt c cc0_scratch0 Finset.univ fullShare f) ∗ (∃ f, pt c cc0_scratch1 Finset.univ fullShare f) ∗ (∃ f, pt c cc0_scratch2 Finset.univ fullShare f)
    ∗ (∃ f, pt c cc0_scratch3 Finset.univ fullShare f) ∗ (∃ f, pt c cc0_scratch4 Finset.univ fullShare f))

/-- What the body starts from, sorted by use. -/
theorem deal :
    iprop(tokens c ∗ credits c ∗ opened c ∗ (∃ f, pt c cc0_scratch4 Finset.univ fullShare f) ∗ (∃ f, pt c main_v2 Finset.univ fullShare f))
      ⊢ (iprop(dutyTok ER (barC (xp c)) 0 false ∗ dutyTok ER (barC (yp c)) 0 true ∗ cred (tallyAt (barC c) () 2)
        ∗ (bigSep Finset.univ fun b => xTok (F := F) c b) ∗ (bigSep Finset.univ fun i => yTok (F := F) c i)
        ∗ (bigSep Finset.univ fun b => rxSlab (F := F) c b) ∗ (bigSep Finset.univ fun i => outRows (F := F) c i)
        ∗ (∃ f, bigSep Finset.univ fun b : Fin 4 => pt c main_v2 (oslab (col c) b.val) fullShare f)
        ∗ (bigSep Finset.univ fun b : Fin 4 => atPos ER (dC c (sxs b)) 0 ∅ 0) ∗ (bigSep Finset.univ fun b : Fin 4 => atPos ER (dC c (rxs b)) 0 ∅ 0)
        ∗ (bigSep Finset.univ fun i : Fin 8 => atPos ER (dC c (sys i)) 0 ∅ 0) ∗ (bigSep Finset.univ fun i : Fin 8 => atPos ER (dC c (rys i)) 0 ∅ 0)
        ∗ (bigSep Finset.univ fun b : Fin 4 => cred (tallyAt (dC c (rxs b)) () N1)) ∗ (bigSep Finset.univ fun i : Fin 8 => cred (tallyAt (dC c (rys i)) () N2))) : sProp 𝕄) := by
  have hs := sems_scheduled (F := F) fun k => iprop(atPos ER (dC c k) 0 ∅ 0 ∗ reached ER (dC c k) 0)
  have hx : iprop((bigSep Finset.univ fun b : Fin 4 => (dutyTok ER (dC c (sxs b)) 0 false : sProp 𝕄)) ∗ (bigSep Finset.univ fun b : Fin 4 => reached ER (dC c (sxs b)) 0)
      ∗ bigSep Finset.univ fun b : Fin 4 => dutyTok ER (dC (xp c) (rxs b)) 0 false) ⊢ (bigSep Finset.univ fun b => xTok (F := F) c b) := by
    unfold xTok; rw [bigSep_sep', bigSep_sep']
  have hy : iprop((bigSep Finset.univ fun i : Fin 8 => (dutyTok ER (dC c (sys i)) 0 false : sProp 𝕄)) ∗ (bigSep Finset.univ fun i : Fin 8 => reached ER (dC c (sys i)) 0)
      ∗ bigSep Finset.univ fun i : Fin 8 => dutyTok ER (dC (yp c) (rys i)) 0 false) ⊢ (bigSep Finset.univ fun i => yTok (F := F) c i) := by
    unfold yTok; rw [bigSep_sep', bigSep_sep']
  have hr (f) : iprop((bigSep Finset.univ fun b : Fin 4 => pt c cc0_scratch4 (slab b.val) fullShare f) ∗ bigSep Finset.univ fun b : Fin 4 => reached ER (dC c (rxs b)) 0)
      ⊢ (bigSep Finset.univ fun b => rxSlab (F := F) c b) := by
    unfold rxSlab; rw [bigSep_sep']
    have e (b : Fin 4) : (pt c cc0_scratch4 (slab b.val) fullShare f : sProp 𝕄) ⊢ iprop(∃ f, pt c cc0_scratch4 (slab b.val) fullShare f) := by
      iintro H; iexists f; iexact H
    exact sep_mono_left (bigSep_mono fun b _ => e b)
  have ho (f) : iprop((bigSep Finset.univ fun i : Fin 8 => pt c main_v2 (orows (1 - col c) i.val) fullShare f) ∗ bigSep Finset.univ fun i : Fin 8 => reached ER (dC c (rys i)) 0)
      ⊢ (bigSep Finset.univ fun i => outRows (F := F) c i) := by
    unfold outRows; rw [bigSep_sep']
    have e (i : Fin 8) : (pt c main_v2 (orows (1 - col c) i.val) fullShare f : sProp 𝕄) ⊢ iprop(∃ f, pt c main_v2 (orows (1 - col c) i.val) fullShare f) := by
      iintro H; iexists f; iexact H
    exact sep_mono_left (bigSep_mono fun i _ => e i)
  unfold tokens credits opened
  rw [hs, bigSep_sep', bigSep_sep', bigSep_sep', bigSep_sep']
  iintro ⟨⟨T1, T2, T3, T4, T5, T6⟩, ⟨C1, C2, C3⟩, ⟨⟨A1, R1⟩, ⟨A2, R2⟩, ⟨A3, R3⟩, ⟨A4, R4⟩⟩, ⟨%f, Hr⟩, ⟨%g, Ho⟩⟩
  ihave Hr := (Entails.of_eq (recv_slabs c)) $$ Hr
  ihave Ho := (Entails.of_eq (out_pieces c)) $$ Ho
  icases Ho with ⟨Hd, Ho⟩
  isplitl [T1]; · iexact T1
  isplitl [T2]; · iexact T2
  isplitl [C1]; · iexact C1
  isplitl [T3 R1 T4]
  · iapply hx
    isplitl [T3]; · iexact T3
    isplitl [R1] <;> iassumption
  isplitl [T5 R3 T6]
  · iapply hy
    isplitl [T5]; · iexact T5
    isplitl [R3] <;> iassumption
  isplitl [Hr R2]
  · iapply (hr f)
    isplitl [Hr] <;> iassumption
  isplitl [Ho R4]
  · iapply (ho g)
    isplitl [Ho] <;> iassumption
  isplitl [Hd]; · iexists g; iexact Hd
  isplitl [A1]; · iexact A1
  isplitl [A2]; · iexact A2
  isplitl [A3]; · iexact A3
  isplitl [A4]; · iexact A4
  isplitl [C2] <;> iassumption

/-- The send buffer, put together from what its transfers and the copies into the result give back. -/
theorem send_join :
    iprop((bigSep Finset.univ fun i : Fin 8 => pt c cc0_scratch3 (rows i.val) fullShare.left (SY A B c)) ∗ bigSep Finset.univ fun b : Fin 4 => pt c cc0_scratch3 (slab b.val) fullShare.right (SY A B c))
      ⊢ (pt c cc0_scratch3 Finset.univ fullShare (SY A B c) : sProp 𝕄) := by
  rw [← send_rows, ← send_slabs]
  exact (pointsTo_share (PosShare.mem_left_op_right fullShare)).2

/-- The semaphores of the local copies, by name. -/
theorem locals_eq : (bigSep Finset.univ fun k : Fin 7 => (semVal (dC c (los k)) 0 : sProp 𝕄))
    = iprop(semVal (dC c (wsm 0)) 0 ∗ semVal (dC c (wsm 1)) 0 ∗ semVal (dC c osm) 0
      ∗ semVal (dC c (ssm 0)) 0 ∗ semVal (dC c (ssm 1)) 0 ∗ semVal (dC c (ssm 2)) 0 ∗ semVal (dC c (ssm 3)) 0) := seven _

/-- What a device starts the body with, beside what all know; -/
def before : sProp 𝕄 :=
  iprop(tokens c ∗ credits c ∗ opened c ∗ atPos ER (barC c) 0 ∅ 0 ∗ (bigSep Finset.univ fun k : Fin 7 => semVal (dC c (los k)) 0)
    ∗ pt c main_arg1 Finset.univ fullShare (B c) ∗ pt c main_v1 Finset.univ fullShare (A c) ∗ (∃ f, pt c main_v2 Finset.univ fullShare f) ∗ scratch c ∗ ow c (owe0 c))
/-- and what it ends it with: every semaphore at zero, the operands as they were, the result, and no debt. -/
def after : sProp 𝕄 :=
  iprop(semVal (barC c) 0 ∗ (bigSep (Finset.univ : Finset (DmaSem sig)) fun k => semVal (dC c k) 0)
    ∗ pt c main_arg1 Finset.univ fullShare (B c) ∗ pt c main_v1 Finset.univ fullShare (A c) ∗ pt c main_v2 Finset.univ fullShare (OUT A B c) ∗ scratch c ∗ ow c 0)

set_option maxHeartbeats 1000000 in
/-- The body. -/
theorem body_run (Kt : PUnit → sProp (MT nD τ sig Unit (Elt F) ℕ UU ℕ)) :
    know A B κ ⊢ iprop(before A B c -∗ (after A B c -∗ Kt ⟨⟩)
      -∗ run c (cc0_body (Memref.whole main_v1) (Memref.isWhole_whole _) (Memref.whole main_arg1) (Memref.isWhole_whole _) (Memref.whole main_v2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11) Kt) := by
  unfold before
  iintro #HK ⟨Htok, Hcr, Hop, HatB, Hlo, HB, HA, HOut, Hscr, HO⟩ Hk
  unfold scratch
  icases Hscr with ⟨⟨%f0, S0⟩, ⟨%f1, S1⟩, ⟨%f2, S2⟩, ⟨%f3, S3⟩, S4⟩
  ihave D := (deal c) $$ [Htok Hcr Hop HOut S4]
  · isplitl [Htok]; · iexact Htok
    isplitl [Hcr]; · iexact Hcr
    isplitl [Hop]; · iexact Hop
    isplitl [S4] <;> iassumption
  icases D with ⟨Htx, Hty, Hcb, Xt, Yt, Hrx, Hou, ⟨%fd, Od⟩, Asx, Arx, Asy, Ary, Crx, Cry⟩
  ihave Xt := (Entails.of_eq (four _)) $$ Xt
  icases Xt with ⟨Xt0, Xt1, Xt2, Xt3⟩
  ihave Yt := (Entails.of_eq (eight _)) $$ Yt
  icases Yt with ⟨Yt0, Yt1, Yt2, Yt3, Yt4, Yt5, Yt6, Yt7⟩
  ihave Od := (Entails.of_eq (four _)) $$ Od
  icases Od with ⟨Od0, Od1, Od2, Od3⟩
  ihave Asx := (Entails.of_eq (four _)) $$ Asx
  icases Asx with ⟨Asx0, Asx1, Asx2, Asx3⟩
  ihave Arx := (Entails.of_eq (four _)) $$ Arx
  icases Arx with ⟨Arx0, Arx1, Arx2, Arx3⟩
  ihave Asy := (Entails.of_eq (eight _)) $$ Asy
  icases Asy with ⟨Asy0, Asy1, Asy2, Asy3, Asy4, Asy5, Asy6, Asy7⟩
  ihave Ary := (Entails.of_eq (eight _)) $$ Ary
  icases Ary with ⟨Ary0, Ary1, Ary2, Ary3, Ary4, Ary5, Ary6, Ary7⟩
  ihave Crx := (Entails.of_eq (four _)) $$ Crx
  icases Crx with ⟨Crx0, Crx1, Crx2, Crx3⟩
  ihave Cry := (Entails.of_eq (eight _)) $$ Cry
  icases Cry with ⟨Cry0, Cry1, Cry2, Cry3, Cry4, Cry5, Cry6, Cry7⟩
  ihave Hlo := (Entails.of_eq (locals_eq c)) $$ Hlo
  icases Hlo with ⟨Lo0, Lo1, Lo2, Lo3, Lo4, Lo5, Lo6⟩
  ihave HB := (pointsTo_share (PosShare.mem_left_op_right fullShare)).1 $$ HB
  icases HB with ⟨Hb1, Hb2⟩
  ihave S0 := (Entails.of_eq (stage_slots c)) $$ S0
  icases S0 with ⟨Hs0, Hs1⟩
  ihave S1 := (Entails.of_eq (wbuf_rows c)) $$ S1
  ihave S3 := (Entails.of_eq (send_slabs c)) $$ S3
  ihave S1 := (Entails.of_eq (four _)) $$ S1
  icases S1 with ⟨Hw0, Hw1, Hw2, Hw3⟩
  ihave S3 := (Entails.of_eq (four _)) $$ S3
  icases S3 with ⟨Sb0, Sb1, Sb2, Sb3⟩
  simp only [cc0_body_eq_skeleton]; unfold cc0_body_skel
  simp only [k0_part21_eq_skeleton]; unfold k0_part21_skel
  simp only [Prog.bind_assoc]
  iapply (part1 A B κ c) $$ HK Hb1 Hb2 HA Hs0 Hs1 S2 Lo0 Lo1 Lo2 Htx Hrx HO
  iintro %v2 %v5 %v6 %v7 ⟨M0, M1, M2, HO⟩
  iapply (part2 A B κ c) $$ HK Hty Hou HO HatB Hcb M0 M1 Hw0
  iintro ⟨HX, HY, Vb, HO, Hw0, M0, Hs1, Hb2, Lo1⟩
  unfold barX barY
  ihave HX := (Entails.of_eq (four _)) $$ HX
  icases HX with ⟨Rx0, Rx1, Rx2, Rx3⟩
  ihave HY := (Entails.of_eq (eight _)) $$ HY
  icases HY with ⟨Ou0, Ou1, Ou2, Ou3, Ou4, Ou5, Ou6, Ou7⟩
  iapply (part3 A B κ c) $$ HK Hw1 Hs1 Hb2 Lo1 M0 Hw2 HO
  iintro ⟨Hw1, Hw2, Hs0, Hs1, Hb1, Hb2, Lo0, Lo1, HO⟩
  iapply (part4 A B κ c) $$ HK Hw0 Hw1 Hw2 Hw3 M2 HO Xt0 Rx0 Sb0
  iintro ⟨Hw, M2, Cs0, HO⟩
  iapply (part5 A B κ c) $$ HK Sb1 Xt1 Rx1 HO M2 Hw Sb2
  iintro %v138 ⟨Cs1, HO, Ht, HA, Lo2, Hw, Sb2⟩
  iapply (part6 A B κ c) $$ HK Sb2 Xt2 Rx2 Sb3 Xt3 Rx3 HO Ht HA Lo2
  iintro ⟨Cs2, Cs3, HO, Ht, HA, Lo2⟩
  iapply (part7 A B κ c) $$ HK Ht HA Lo2 Hw Asx0 Cs0 Arx0 Crx0 HO
  iintro ⟨M2, Hw, R0, R1, Vs0, X0, Vr0, HO⟩
  iapply (part8 A B κ c) $$ HK R0 R1 Yt0 Ou0 X0 HO
  iintro ⟨Cy0, R0, R1, X0, HO⟩
  iapply (part9 A B κ c) $$ HK Yt1 Ou1 R0 R1 Od0 Lo3 Asx1 Cs1 HO
  iintro ⟨Cy1, N0, R2, R3, Vs1, HO⟩
  iapply (part10 A B κ c) $$ HK Arx1 Crx1 R2 R3 Yt2 Ou2 HO
  iintro ⟨X1, Vr1, Cy2, R2, R3, HO⟩
  iapply (part11 A B κ c) $$ HK Yt3 Ou3 R2 R3 Od1 Lo4 M2 Hw HO
  iintro ⟨Cy3, N1, Ht, HA, Lo2, Hw, HO⟩
  iapply (part12 A B κ c) $$ HK Asx2 Cs2 Arx2 Crx2 HO
  iintro ⟨R4, R5, Vs2, X2, Vr2, HO⟩
  iapply (part13 A B κ c) $$ HK Yt4 Ou4 R4 X2 R5 Yt5 Ou5 Od2 Lo5 HO
  iintro ⟨Cy4, Cy5, X2, N2, HO⟩
  iapply (part14 A B κ c) $$ HK Asx3 Cs3 Arx3 Crx3 HO
  iintro %v399 %v400 ⟨R6, R7, Vs3, X3, Vr3, HO⟩
  iapply (part15 A B κ c) $$ HK Yt6 Ou6 R6 X3 R7 Yt7 Ou7 HO
  iintro ⟨Cy6, Cy7, X3, R6, R7, HO⟩
  iapply (part16 A B κ c) $$ HK R6 R7 Od3 Lo6 Asy0 Cy0 Ary0 Cry0 Asy1 Cy1 HO
  iintro ⟨N3, R0, Vy0, O0, Vz0, R1, Vy1, HO⟩
  iapply (part17 A B κ c) $$ HK Ary1 Cry1 Asy2 Cy2 Ary2 Cry2 HO
  iintro ⟨O1, Vz1, R2, Vy2, O2, Vz2, HO⟩
  iapply (part18 A B κ c) $$ HK Asy3 Cy3 Ary3 Cry3 Asy4 Cy4 HO
  iintro ⟨R3, Vy3, O3, Vz3, R4, Vy4, HO⟩
  iapply (part19 A B κ c) $$ HK Ary4 Cry4 Asy5 Cy5 Ary5 Cry5 Asy6 Cy6 HO
  iintro ⟨O4, Vz4, R5, Vy5, O5, Vz5, R6, Vy6, HO⟩
  iapply (part20 A B κ c) $$ HK Ary6 Cry6 Asy7 Cy7 Ary7 Cry7 HO
  iintro ⟨O6, Vz6, R7, Vy7, O7, Vz7, HO⟩
  simp only [Prog.lift, Prog.bind_op, Prog.bind_ret, Prog.pure_eq_ret]
  iapply (s_wait A B κ c 0) $$ HK N0 HO
  iintro ⟨⟨Od0, Sb0⟩, Lo3, HO⟩
  iapply (s_wait A B κ c 1) $$ HK N1 HO
  iintro ⟨⟨Od1, Sb1⟩, Lo4, HO⟩
  iapply (s_wait A B κ c 2) $$ HK N2 HO
  iintro ⟨⟨Od2, Sb2⟩, Lo5, HO⟩
  iapply (s_wait A B κ c 3) $$ HK N3 HO
  iintro ⟨⟨Od3, Sb3⟩, Lo6, HO⟩
  unfold run
  rw [wp_ret]
  imodintro
  iapply Hk
  unfold after scratch
  isplitl [Vb]; · iexact Vb
  rw [owe_end, sems_all, sems_scheduled fun k => semVal (dC c k) 0]
  isplitl [Vs0 Vs1 Vs2 Vs3 Vr0 Vr1 Vr2 Vr3 Vy0 Vy1 Vy2 Vy3 Vy4 Vy5 Vy6 Vy7 Vz0 Vz1 Vz2 Vz3 Vz4 Vz5 Vz6 Vz7 Lo0 Lo1 Lo2 Lo3 Lo4 Lo5 Lo6]
  · isplitl [Vs0 Vs1 Vs2 Vs3 Vr0 Vr1 Vr2 Vr3 Vy0 Vy1 Vy2 Vy3 Vy4 Vy5 Vy6 Vy7 Vz0 Vz1 Vz2 Vz3 Vz4 Vz5 Vz6 Vz7]
    · isplitl [Vs0 Vs1 Vs2 Vs3]
      · iapply (Entails.of_eq (four _).symm)
        isplitl [Vs0]; · iexact Vs0
        isplitl [Vs1]; · iexact Vs1
        isplitl [Vs2]; · iexact Vs2
        iexact Vs3
      isplitl [Vr0 Vr1 Vr2 Vr3]
      · iapply (Entails.of_eq (four _).symm)
        isplitl [Vr0]; · iexact Vr0
        isplitl [Vr1]; · iexact Vr1
        isplitl [Vr2]; · iexact Vr2
        iexact Vr3
      isplitl [Vy0 Vy1 Vy2 Vy3 Vy4 Vy5 Vy6 Vy7]
      · iapply (Entails.of_eq (eight _).symm)
        isplitl [Vy0]; · iexact Vy0
        isplitl [Vy1]; · iexact Vy1
        isplitl [Vy2]; · iexact Vy2
        isplitl [Vy3]; · iexact Vy3
        isplitl [Vy4]; · iexact Vy4
        isplitl [Vy5]; · iexact Vy5
        isplitl [Vy6]; · iexact Vy6
        iexact Vy7
      iapply (Entails.of_eq (eight _).symm)
      isplitl [Vz0]; · iexact Vz0
      isplitl [Vz1]; · iexact Vz1
      isplitl [Vz2]; · iexact Vz2
      isplitl [Vz3]; · iexact Vz3
      isplitl [Vz4]; · iexact Vz4
      isplitl [Vz5]; · iexact Vz5
      isplitl [Vz6]; · iexact Vz6
      iexact Vz7
    iapply (Entails.of_eq (locals_eq c).symm)
    isplitl [Lo0]; · iexact Lo0
    isplitl [Lo1]; · iexact Lo1
    isplitl [Lo2]; · iexact Lo2
    isplitl [Lo3]; · iexact Lo3
    isplitl [Lo4]; · iexact Lo4
    isplitl [Lo5]; · iexact Lo5
    iexact Lo6
  isplitl [Hb1 Hb2]
  · iapply (pointsTo_share (PosShare.mem_left_op_right fullShare)).2
    isplitl [Hb1] <;> iassumption
  isplitl [HA]; · iexact HA
  isplitl [Od0 Od1 Od2 Od3 O0 O1 O2 O3 O4 O5 O6 O7]
  · iapply (Entails.of_eq (out_pieces c).symm)
    isplitl [Od0 Od1 Od2 Od3]
    · iapply (Entails.of_eq (four _).symm)
      isplitl [Od0]; · iexact Od0
      isplitl [Od1]; · iexact Od1
      isplitl [Od2]; · iexact Od2
      iexact Od3
    iapply (Entails.of_eq (eight _).symm)
    isplitl [O0]; · iexact O0
    isplitl [O1]; · iexact O1
    isplitl [O2]; · iexact O2
    isplitl [O3]; · iexact O3
    isplitl [O4]; · iexact O4
    isplitl [O5]; · iexact O5
    isplitl [O6]; · iexact O6
    iexact O7
  isplitr [HO]
  · isplitl [Hs0 Hs1]
    · iapply (stage_join c)
      isplitl [Hs0] <;> iassumption
    isplitl [Hw]; · iexists _; iexact Hw
    isplitl [Ht]; · iexists _; iexact Ht
    isplitl [R0 R1 R2 R3 R4 R5 R6 R7 Sb0 Sb1 Sb2 Sb3]
    · iexists _
      iapply (send_join A B c)
      isplitl [R0 R1 R2 R3 R4 R5 R6 R7]
      · iapply (Entails.of_eq (eight _).symm)
        isplitl [R0]; · iexact R0
        isplitl [R1]; · iexact R1
        isplitl [R2]; · iexact R2
        isplitl [R3]; · iexact R3
        isplitl [R4]; · iexact R4
        isplitl [R5]; · iexact R5
        isplitl [R6]; · iexact R6
        iexact R7
      iapply (Entails.of_eq (four _).symm)
      isplitl [Sb0]; · iexact Sb0
      isplitl [Sb1]; · iexact Sb1
      isplitl [Sb2]; · iexact Sb2
      iexact Sb3
    iexists _
    iapply (Entails.of_eq (recv_slabs c).symm)
    iapply (Entails.of_eq (four _).symm)
    isplitl [X0]; · iexact X0
    isplitl [X1]; · iexact X1
    isplitl [X2]; · iexact X2
    iexact X3
  iexact HO

end Whole

end TwoStage
-- ==== Proof.Launch.lean ====
module

public import proofs.«01_k».proof.Proof.Body
public import Idealize.ShloMosaic.Lib.Rounds.Family

/-!
# What the devices are dealt at launch

The tokens of the transfers, handed each to its sender; the credit of what each device is owed; and the buffers
a device holds outside the body.
-/

@[expose] public section

noncomputable section

namespace TwoStage

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## Tokens -/

/-- The duties of one device's cells: two on its barrier, one on each scheduled transfer semaphore. -/
def duty : Bool ⊕ Fin 24 → SemLoc sig × Bool
  | .inl d => (.reg barS, d)
  | .inr k => (.dma (tsem k), false)

/-- Different duties are told apart by their names. -/
theorem duty_inj : Function.Injective duty := by
  rintro (d | k) (d' | k') h
  · exact congrArg Sum.inl (congrArg Prod.snd h)
  · cases congrArg Prod.fst h
  · cases congrArg Prod.fst h
  · exact congrArg Sum.inr (Fin.ext (congrArg (fun k : DmaSem sig => k.val) (SemLoc.dma.inj (congrArg Prod.fst h))))

/-- Every duty of the machine. -/
def duties : Finset (GSem nD τ sig × ℕ × Bool) :=
  Finset.univ.map ⟨fun ck : Dev nD × (Bool ⊕ Fin 24) => (((ck.1 : Thread nD τ), (duty ck.2).1), 0, (duty ck.2).2), fun _ _ h =>
    Prod.ext (congrArg (fun t : GSem nD τ sig × ℕ × Bool => t.1.1.1) h)
      (duty_inj (Prod.ext (congrArg (fun t : GSem nD τ sig × ℕ × Bool => t.1.2) h) (congrArg (fun t : GSem nD τ sig × ℕ × Bool => t.2.2) h)))⟩

/-- All the tokens are, device by device, the tokens of what it sends. -/
theorem tokens_dealt : bigSep duties (fun x => (dutyTok ER x.1 x.2.1 x.2.2 : sProp 𝕄)) = bigSep Finset.univ fun c : Dev nD => tokens c := by
  have e (c : Dev nD) : bigSep Finset.univ (fun x : Bool ⊕ Fin 24 => (dutyTok ER ((c : Thread nD τ), (duty x).1) 0 (duty x).2 : sProp 𝕄))
      = iprop((dutyTok ER (barC c) 0 false ∗ dutyTok ER (barC c) 0 true)
        ∗ (bigSep Finset.univ fun b : Fin 4 => dutyTok ER (dC c (sxs b)) 0 false) ∗ (bigSep Finset.univ fun b : Fin 4 => dutyTok ER (dC c (rxs b)) 0 false)
        ∗ (bigSep Finset.univ fun i : Fin 8 => dutyTok ER (dC c (sys i)) 0 false) ∗ (bigSep Finset.univ fun i : Fin 8 => dutyTok ER (dC c (rys i)) 0 false)) := by
    rw [bigSep_univ_sum, ← sems_scheduled fun k => dutyTok ER (dC c k) 0 false]
    rw [bigSep_univ_eq_bigSepL [false, true] (by decide) (by decide)]
    rfl
  unfold duties
  rw [bigSep_map, bigSep_univ_prod]
  refine (bigSep_congr fun c _ => e c).trans ?_
  unfold tokens
  simp only [bigSep_sep']
  rw [bigSep_univ_equiv xEquiv (fun c : Dev nD => (dutyTok ER (barC c) 0 false : sProp 𝕄)),
    bigSep_univ_equiv yEquiv (fun c : Dev nD => (dutyTok ER (barC c) 0 true : sProp 𝕄)),
    bigSep_univ_equiv xEquiv (fun c : Dev nD => (bigSep Finset.univ fun b : Fin 4 => dutyTok ER (dC c (rxs b)) 0 false : sProp 𝕄)),
    bigSep_univ_equiv yEquiv (fun c : Dev nD => (bigSep Finset.univ fun i : Fin 8 => dutyTok ER (dC c (rys i)) 0 false : sProp 𝕄)),
    sep_assoc_eq]
  rfl

/-! ## Credit -/

/-- Different transfer semaphores have different cells, -/
theorem dC_inj {c c' : Dev nD} {k k' : DmaSem sig} (h : dC c k = dC c' k') : c = c' ∧ k = k' :=
  ⟨congrArg (fun g : GSem nD τ sig => g.1.1) h, SemLoc.dma.inj (congrArg Prod.snd h)⟩
/-- and none of them is a barrier's. -/
theorem barC_ne (c c' : Dev nD) (k : DmaSem sig) : barC c ≠ dC c' k := fun h => by cases congrArg Prod.snd h
/-- The semaphores of the two exchanges differ. -/
theorem rx_ne_ry (b : Fin 4) (i : Fin 8) : rxs b ≠ rys i := fun h => by
  have h' : 4 + b.val = 16 + i.val := congrArg (fun k : DmaSem sig => k.val) h
  omega

/-- What a device owes a cell for the first exchange, -/
theorem owX_apply (d : Dev nD) (g : GSem nD τ sig) : owX d 0 g () = ∑ b : Fin 4, if g = dC (xp d) (rxs b) then N1 else 0 := by
  unfold owX
  rw [Finset.filter_true_of_mem fun b _ => Nat.zero_le _, Finset.sum_apply, Finsupp.finset_sum_apply]
  exact Finset.sum_congr rfl fun b _ => by rw [tallyAt_apply]; exact if_congr (and_iff_left rfl) rfl rfl
/-- for the second, -/
theorem owY_apply (d : Dev nD) (g : GSem nD τ sig) : owY d 0 g () = ∑ i : Fin 8, if g = dC (yp d) (rys i) then N2 else 0 := by
  unfold owY
  rw [Finset.filter_true_of_mem fun b _ => Nat.zero_le _, Finset.sum_apply, Finsupp.finset_sum_apply]
  exact Finset.sum_congr rfl fun b _ => by rw [tallyAt_apply]; exact if_congr (and_iff_left rfl) rfl rfl
/-- and in all, at launch. -/
theorem owe0_apply (d : Dev nD) (g : GSem nD τ sig) : owe0 d g ()
    = (∑ b : Fin 4, if g = dC (xp d) (rxs b) then N1 else 0) + (∑ i : Fin 8, if g = dC (yp d) (rys i) then N2 else 0)
      + (if g = barC (yp d) then 1 else 0) + (if g = barC (xp d) then 1 else 0) := by
  rw [← owX_apply, ← owY_apply]
  show owX d 0 g () + owY d 0 g () + tallyAt (barC (yp d)) () 1 g () + tallyAt (barC (xp d)) () 1 g () = _
  rw [tallyAt_apply, tallyAt_apply]
  simp only [and_true]

/-- A sum with one index of each device's peer. -/
theorem eq_xp (d c : Dev nD) : c = xp d ↔ d = xp c := ⟨fun h => by rw [h, xp_xp], fun h => by rw [h, xp_xp]⟩
/-- A device is another's peer in its row exactly when the other is its own. -/
theorem eq_yp (d c : Dev nD) : c = yp d ↔ d = yp c := ⟨fun h => by rw [h, yp_yp], fun h => by rw [h, yp_yp]⟩
/-- Different devices have different barriers. -/
theorem barC_eq {c d : Dev nD} : barC c = barC d ↔ c = d := ⟨fun h => congrArg (fun g : GSem nD τ sig => g.1.1) h, fun h => by rw [h]⟩

/-- All devices together owe each barrier two units, -/
theorem launch_bar (c : Dev nD) :
    tallyOn (barC c) (launchCredit (Pipeline.owing owe0) 0 (barC c)) = (tallyAt (barC c) () 2 : CellTallies nD τ sig Unit) := by
  unfold tallyAt; refine congrArg _ (Finsupp.ext fun u => ?_); cases u
  rw [Pipeline.launchCredit_owing, Finsupp.single_eq_same]
  have e (d : Dev nD) : owe0 d (barC c) () = (if d = yp c then 1 else 0) + (if d = xp c then 1 else 0) := by
    rw [owe0_apply, Finset.sum_eq_zero fun b _ => if_neg (barC_ne _ _ _), Finset.sum_eq_zero fun b _ => if_neg (barC_ne _ _ _),
      if_congr (barC_eq.trans (eq_yp d c)) rfl rfl, if_congr (barC_eq.trans (eq_xp d c)) rfl rfl]
    omega
  rw [Finset.sum_congr rfl fun d _ => e d, Finset.sum_add_distrib, Finset.sum_ite_eq' Finset.univ (yp c) fun _ => 1,
    Finset.sum_ite_eq' Finset.univ (xp c) fun _ => 1, if_pos (Finset.mem_univ _), if_pos (Finset.mem_univ _)]

/-- each receiving of a slab one slab's, -/
theorem launch_rx (c : Dev nD) (b : Fin 4) :
    tallyOn (dC c (rxs b)) (launchCredit (Pipeline.owing owe0) 0 (dC c (rxs b))) = (tallyAt (dC c (rxs b)) () N1 : CellTallies nD τ sig Unit) := by
  unfold tallyAt; refine congrArg _ (Finsupp.ext fun u => ?_); cases u
  rw [Pipeline.launchCredit_owing, Finsupp.single_eq_same]
  have e (d : Dev nD) : owe0 d (dC c (rxs b)) () = if d = xp c then N1 else 0 := by
    rw [owe0_apply, if_neg (barC_ne _ _ _).symm, if_neg (barC_ne _ _ _).symm,
      Finset.sum_eq_zero (f := fun i : Fin 8 => if dC c (rxs b) = dC (yp d) (rys i) then N2 else 0) fun i _ => if_neg fun h => rx_ne_ry b i (dC_inj h).2]
    have e2 (b' : Fin 4) : dC c (rxs b) = dC (xp d) (rxs b') ↔ b' = b ∧ d = xp c :=
      ⟨fun h => ⟨Fin.ext (by have := congrArg (fun k : DmaSem sig => k.val) (dC_inj h).2; have : 4 + b.val = 4 + b'.val := this; omega), (eq_xp d c).mp (dC_inj h).1⟩,
        fun h => by rw [h.1, h.2, xp_xp]⟩
    rw [Finset.sum_congr rfl fun b' _ => (if_congr (e2 b') rfl rfl).trans (ite_and _ _ _ _), Finset.sum_ite_eq' Finset.univ b fun _ => _, if_pos (Finset.mem_univ _)]
    rfl
  rw [Finset.sum_congr rfl fun d _ => e d, Finset.sum_ite_eq' Finset.univ (xp c) fun _ => N1, if_pos (Finset.mem_univ _)]

/-- and each receiving of a half-slab one half-slab's. -/
theorem launch_ry (c : Dev nD) (i : Fin 8) :
    tallyOn (dC c (rys i)) (launchCredit (Pipeline.owing owe0) 0 (dC c (rys i))) = (tallyAt (dC c (rys i)) () N2 : CellTallies nD τ sig Unit) := by
  unfold tallyAt; refine congrArg _ (Finsupp.ext fun u => ?_); cases u
  rw [Pipeline.launchCredit_owing, Finsupp.single_eq_same]
  have e (d : Dev nD) : owe0 d (dC c (rys i)) () = if d = yp c then N2 else 0 := by
    rw [owe0_apply, if_neg (barC_ne _ _ _).symm, if_neg (barC_ne _ _ _).symm,
      Finset.sum_eq_zero (f := fun b : Fin 4 => if dC c (rys i) = dC (xp d) (rxs b) then N1 else 0) fun b _ => if_neg fun h => rx_ne_ry b i (dC_inj h).2.symm]
    have e2 (i' : Fin 8) : dC c (rys i) = dC (yp d) (rys i') ↔ i' = i ∧ d = yp c :=
      ⟨fun h => ⟨Fin.ext (by have := congrArg (fun k : DmaSem sig => k.val) (dC_inj h).2; have : 16 + i.val = 16 + i'.val := this; omega), (eq_yp d c).mp (dC_inj h).1⟩,
        fun h => by rw [h.1, h.2, yp_yp]⟩
    rw [Finset.sum_congr rfl fun i' _ => (if_congr (e2 i') rfl rfl).trans (ite_and _ _ _ _), Finset.sum_ite_eq' Finset.univ i fun _ => _, if_pos (Finset.mem_univ _)]
    omega
  rw [Finset.sum_congr rfl fun d _ => e d, Finset.sum_ite_eq' Finset.univ (yp c) fun _ => N2, if_pos (Finset.mem_univ _)]

/-- The semaphores others signal or send to. -/
def owed : Unit ⊕ (Fin 4 ⊕ Fin 8) ↪ SemLoc sig :=
  ⟨fun | .inl _ => .reg barS | .inr (.inl b) => .dma (rxs b) | .inr (.inr i) => .dma (rys i), by
    rintro (u | b | i) (u' | b' | i') h
    · rfl
    · cases h
    · cases h
    · cases h
    · exact congrArg (fun b => Sum.inr (Sum.inl b)) (Fin.ext (by have := congrArg (fun k : DmaSem sig => k.val) (SemLoc.dma.inj h); have : 4 + b.val = 4 + b'.val := this; omega))
    · exact absurd (SemLoc.dma.inj h) (rx_ne_ry _ _)
    · cases h
    · exact absurd (SemLoc.dma.inj h).symm (rx_ne_ry _ _)
    · exact congrArg (fun b => Sum.inr (Sum.inr b)) (Fin.ext (by have := congrArg (fun k : DmaSem sig => k.val) (SemLoc.dma.inj h); have : 16 + i.val = 16 + i'.val := this; omega))⟩

/-- A device's launch credit holds what its peers are to signal and send it. -/
theorem credits_dealt (c : Dev nD) : (Pipeline.launchCred owe0 c : sProp 𝕄) ⊢ credits c := by
  unfold Pipeline.launchCred credits
  refine (bigSep_subset (Finset.subset_univ (Finset.univ.map owed))).trans ?_
  rw [bigSep_map, bigSep_univ_sum, bigSep_univ_sum, bigSep_univ_eq_bigSepL [()] (by decide) (by decide)]
  have e0 : (cred (tallyOn (barC c) (launchCredit (Pipeline.owing owe0) 0 (barC c))) : sProp 𝕄) = cred (tallyAt (barC c) () 2) := by rw [launch_bar]
  have e1 (b : Fin 4) : (cred (tallyOn (dC c (rxs b)) (launchCredit (Pipeline.owing owe0) 0 (dC c (rxs b)))) : sProp 𝕄) = cred (tallyAt (dC c (rxs b)) () N1) := by rw [launch_rx]
  have e2 (i : Fin 8) : (cred (tallyOn (dC c (rys i)) (launchCredit (Pipeline.owing owe0) 0 (dC c (rys i)))) : sProp 𝕄) = cred (tallyAt (dC c (rys i)) () N2) := by rw [launch_ry]
  rw [← e0, ← bigSep_congr fun b _ => e1 b, ← bigSep_congr fun i _ => e2 i]
  exact BI.Entails.refl _

/-! ## Buffers and semaphores -/

/-- The buffers a device holds outside the body. -/
def bufs : Finset (DevRef τ sig) := (StableHlo.tcRefs τ sig).filter fun b => ¬ b.isScoped

/-- The buffers that outlive the kernel, as one thing held. -/
theorem bufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

/-- They are the two arguments, the first one reshaped, and the result. -/
theorem bufs_eq (c : Dev nD) (W : Valuation τ sig (Elt F)) : (StableHlo.held (c : Thread nD τ) bufs W : sProp 𝕄)
    = iprop(pt c main_arg0 Finset.univ fullShare (W main_arg0) ∗ pt c main_arg1 Finset.univ fullShare (W main_arg1)
      ∗ pt c main_v1 Finset.univ fullShare (W main_v1) ∗ pt c main_v2 Finset.univ fullShare (W main_v2)) := by
  unfold StableHlo.held
  rw [bigSep_eq_bigSepL_of_eq [Proc.devRef .tc main_arg0, Proc.devRef .tc main_arg1, Proc.devRef .tc main_v1, Proc.devRef .tc main_v2] (by decide) (by decide)]
  rfl

/-- The one semaphore that outlives the body is the barrier. -/
theorem outer_sems (c : Dev nD) : (unscopedSems0 c : sProp 𝕄) = semVal (barC c) 0 := by
  unfold unscopedSems0
  rw [show (Finset.univ.filter fun sm : SemLoc sig => ¬ sm.isScoped .tc) = {SemLoc.reg barS} from by decide, BI.bigSep_singleton]
/-- The one semaphore that outlives the kernel is the barrier's. -/
theorem outer_sem : ∀ sm : SemLoc sig, sm.isScoped .tc = false → sm = .reg barS := by decide

/-- The semaphores of the body. -/
abbrev bodySem (k : DmaSem sig) : SemLoc sig := .dma k
/-- The kernel's own semaphores, all at zero. -/
theorem body_sems (c : Dev nD) : (Pipeline.ownSems0 bodySem c : sProp 𝕄) = bigSep (Finset.univ : Finset (DmaSem sig)) fun k => semVal (dC c k) 0 := rfl
/-- They are told apart, and none of them is the barrier's. -/
theorem body_sem_facts : Pipeline.OwnSemFacts (cfg0.spec) bodySem := by decide

end TwoStage
-- ==== Proof.Run.lean ====
module

public import proofs.«01_k».proof.Proof.Launch
public import proofs.«01_k».proof.Proof.Gen.KernelIdeal.Frame

/-!
# The program's run

From any memory with every semaphore at zero, the program ends on every device: its arguments unchanged, its result
the one named in `OUT`, and every semaphore at zero again.
-/

@[expose] public section

noncomputable section

namespace TwoStage

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## Contents of the buffers -/

/-- Device `c`'s buffers at launch. -/
abbrev V₀ (c : Dev nD) : Valuation τ sig (Elt F) := fun b => m (c, b)
/-- The buffers once the first argument is reshaped. -/
abbrev V₁ (c : Dev nD) : Valuation τ sig (Elt F) := StableHlo.after hostOps0 (V₀ m c)
/-- The activations that a device works on. -/
def opA (c : Dev nD) : Vec F S4x1024x2048 .f32 := V₁ m c main_v1
/-- The weights that a device works on. -/
def opB (c : Dev nD) : Vec F S2048x4096 .f32 := V₁ m c main_arg1
/-- The buffers at the end. -/
abbrev V₂ (c : Dev nD) : Valuation τ sig (Elt F) := Function.update (V₁ m c) (Proc.devRef .tc main_v2) (OUT (opA m) (opB m) c)

/-- At the end the result is as it is to be, -/
theorem V₂_v2 (c : Dev nD) : V₂ m c main_v2 = OUT (opA m) (opB m) c := Function.update_self ..
/-- the activations unchanged, -/
theorem V₂_arg0 (c : Dev nD) : V₂ m c main_arg0 = V₁ m c main_arg0 := Function.update_of_ne (by decide) ..
/-- the weights unchanged, -/
theorem V₂_arg1 (c : Dev nD) : V₂ m c main_arg1 = V₁ m c main_arg1 := Function.update_of_ne (by decide) ..
/-- and the reshaped activations too. -/
theorem V₂_v1 (c : Dev nD) : V₂ m c main_v1 = V₁ m c main_v1 := Function.update_of_ne (by decide) ..

/-! ## The body's step -/

/-- What stands ready when the body is entered: the cells not yet opened, -/
def dormant (c : Dev nD) : sProp 𝕄 :=
  iprop((∃ κ, cellsInv (opA m) (opB m) κ) ∗ tokens c ∗ (bigSep Finset.univ fun k : Fin 24 => openTok ER (dC c (tsem k))) ∗ atPos ER (barC c) 0 ∅ 0 ∗ credits c)
/-- and opened. -/
def ready (c : Dev nD) : sProp 𝕄 :=
  iprop((∃ κ, know (opA m) (opB m) κ) ∗ tokens c ∗ opened c ∗ atPos ER (barC c) 0 ∅ 0 ∗ (bigSep Finset.univ fun k : Fin 7 => semVal (dC c (los k)) 0) ∗ credits c)

/-- The registers a device draws random numbers from. -/
abbrev prng (c : Dev nD) : sProp 𝕄 := iprop(∃ r, prngReg c r)

/-- The body's one step, as the launch runs it. -/
def dat (c : Dev nD) : Dat τ (Elt F) Unit ℕ UU ℕ cfg0 c where
  A w := w.elim0
  after w := w.elim0
  Φ t := if t.val = 0 then iprop((ready m c ∗ StableHlo.held (c : Thread nD τ) bufs (V₁ m c)) ∗ scratch c ∗ prng c)
    else iprop((semVal (barC c) 0 ∗ StableHlo.held (c : Thread nD τ) bufs (V₂ m c)) ∗ Pipeline.ownSems0 bodySem c ∗ scratch c ∗ prng c)
  q w := w.elim0
  owed t := if t.val = 0 then owe0 c else 0

/-- The kernel's one region is well formed. -/
abbrev adm : (p : Fin 1) → (pcfgs (F := F) p).Adm := fun p => (cfgs p).toPCfg_adm
/-- The proof's data of that region. -/
def pdats : (p : Fin 1) → (c : Dev nD) → Dat τ (Elt F) Unit ℕ UU ℕ (Pipeline.pin (pcfgs (F := F)) adm p) c := fun _ => dat m

/-- Nothing told by no number is nothing. -/
theorem no_windows {M : Type} [URA M] (Φ : Fin 0 → sProp M) : bigSep Finset.univ Φ = (BI.emp : sProp M) :=
  bigSep_univ_eq_bigSepL [] (by decide) (by decide) Φ

/-- What is owed when the region is entered, -/
theorem owed_zero (c : Dev nD) : (pdats (F := F) m 0 c).owed 0 = owe0 c := by
  show (if (0 : Fin (cfg0.N + 1)).val = 0 then owe0 c else 0) = owe0 c; exact if_pos rfl
/-- before its one step, -/
theorem owed_first (c : Dev nD) : (dat (F := F) m c).owed t0_0.castSucc = owe0 c := by
  show (if (t0_0.castSucc : Fin (cfg0.N + 1)).val = 0 then owe0 c else 0) = owe0 c; exact if_pos rfl
/-- after it: nothing, -/
theorem owed_after (c : Dev nD) : (dat (F := F) m c).owed t0_0.succ = 0 := by
  show (if (t0_0.succ : Fin (cfg0.N + 1)).val = 0 then owe0 c else 0) = 0; exact if_neg (Nat.succ_ne_zero _)
/-- and when the region is left: nothing. -/
theorem owed_last (c : Dev nD) : (pdats (F := F) m 0 c).owed (Fin.last _) = 0 := by
  show (if (Fin.last cfg0.N).val = 0 then owe0 c else 0) = 0
  rw [Fin.val_last, if_neg (by rw [show cfg0.N = 1 from N_0]; decide)]

/-- What a device owes, as the region tells it, -/
theorem owes_in {c : Dev nD} (D : Dat τ (Elt F) Unit ℕ UU ℕ cfg0 c) (t : Fin (cfg0.N + 1)) (O : CellTallies nD τ sig Unit) (h : D.owed t = O)
    (hr : D.recorded t = Set.univ) : ow c O ⊢ (D.owesAt () t : sProp 𝕄) := by
  unfold ow Dat.owesAt Pipeline.owesWithin Dat.bound; rw [h, hr]
  iintro ⟨%W, HO⟩; iexists W
  isplitr; · ipureintro; exact fun _ _ => Or.inl trivial
  iexact HO
/-- and back. -/
theorem owes_out {c : Dev nD} (D : Dat τ (Elt F) Unit ℕ UU ℕ cfg0 c) (t : Fin (cfg0.N + 1)) (O : CellTallies nD τ sig Unit) (h : D.owed t = O) :
    (D.owesAt () t : sProp 𝕄) ⊢ ow c O := by
  unfold ow Dat.owesAt Pipeline.owesWithin; rw [h]
  iintro ⟨%W, -, HO⟩; iexists W; iexact HO

/-- The body meets its step. -/
theorem body_step (c : Dev nD) : BodyObligation (dat (F := F) m c) defs₀ 𝒱₀ () Set.univ := fun t => by
  obtain rfl := fin_N0 t
  rw [no_windows, no_windows]
  rw [show (dat m c).Φ t0_0.castSucc = iprop((ready m c ∗ StableHlo.held (c : Thread nD τ) bufs (V₁ m c)) ∗ scratch c ∗ prng c) from rfl,
    show (dat m c).Φ t0_0.succ = iprop((semVal (barC c) 0 ∗ StableHlo.held (c : Thread nD τ) bufs (V₂ m c)) ∗ Pipeline.ownSems0 bodySem c ∗ scratch c ∗ prng c) from rfl,
    body_sems, bufs_eq, bufs_eq, V₂_v2, V₂_arg0, V₂_arg1, V₂_v1]
  unfold ready
  iintro ⟨⟨⟨⟨⟨%κ, #HK⟩, Htok, Hop, Hat, Hlo, Hcr⟩, H0, H1, H2, H3⟩, Hs, Hp⟩, HO, -⟩
  ihave HO := (owes_out (dat m c) _ (owe0 c) (owed_first m c)) $$ HO
  iapply (body_run (opA m) (opB m) κ c _) $$ HK [Htok Hop Hat Hlo Hcr H1 H2 H3 Hs HO]
  · unfold before
    isplitl [Htok]; · iexact Htok
    isplitl [Hcr]; · iexact Hcr
    isplitl [Hop]; · iexact Hop
    isplitl [Hat]; · iexact Hat
    isplitl [Hlo]; · iexact Hlo
    isplitl [H1]; · iexact H1
    isplitl [H2]; · iexact H2
    isplitl [H3]; · iexists _; iexact H3
    isplitl [Hs]; · iexact Hs
    iexact HO
  unfold after
  iintro ⟨Hb, Hsem, H1, H2, H3, Hs, HO⟩
  isplitr [HO]
  · isplitl [Hb H0 H1 H2 H3]
    · isplitl [Hb]; · iexact Hb
      isplitl [H0]; · iexact H0
      isplitl [H1]; · iexact H1
      isplitl [H2]; · iexact H2
      iexact H3
    isplitl [Hsem]; · iexact Hsem
    isplitl [Hs]; · iexact Hs
    iexact Hp
  isplitl [HO]; · iapply (owes_in (dat m c) t0_0.succ 0 (owed_after m c) rfl); iexact HO
  iempintro

/-! ## The program as a reshape and a region -/

/-- What rides beside the buffers until the region is entered. -/
def R (c : Dev nD) : sProp 𝕄 := iprop((dormant m c ∗ prng c) ∗ ow c (owe0 c))

/-- The reshape uses only the buffers that are held. -/
theorem reshape_sub : ∀ op ∈ (hostOps0 : List (HloOp τ sig (Elt F))), op.bufs ⊆ bufs := fun op h => by
  simp only [List.mem_singleton] at h; subst h
  show ({Proc.devRef .tc main_arg0, Proc.devRef .tc main_v1} : Finset (DevRef τ sig)) ⊆ bufs; decide

/-- The reshape. -/
def seg0 : Pipeline.HostSeg (Name := ℕ) (U := UU) (pcfgs (F := F)) defs₀ 𝒱₀ L lv :=
  Pipeline.HostSeg.ofOps _ _ _ _ _ bufs hostOps0 reshape_sub (List.forall_iff_forall_mem.mp hostOps0_fresh) (V₀ m) (R m)

/-- On entry every scheduled cell of the device is opened. -/
theorem opening (c : Dev nD) : iprop(dormant m c ∗ Pipeline.ownSems0 bodySem c ∗ levAts L lv) ⊢ (|={Set.univ}=> ready m c : sProp 𝕄) := by
  rw [body_sems, sems_all]
  unfold dormant ready opened
  iintro ⟨⟨⟨%κ, #HI⟩, Htok, Ho, Hat, Hcr⟩, ⟨Hv, Hlo⟩, #Hlev⟩
  have hI : cellsInv (opA m) (opB m) κ ⊢ (bigSep Finset.univ fun k : Fin 24 => cellInv ER (sched (opA m) (opB m)) (κ (dC c (tsem k))) (dC c (tsem k)) : sProp 𝕄) :=
    BI.bigSep_intro_persistent fun k _ => by
      unfold cellsInv
      exact sep_elim_left.trans (bigSep_elim (dma_mem c (tsem k) k.isLt))
  imod (Rounds.cells_open ER (sched (opA m) (opB m)) Finset.univ (fun k : Fin 24 => dC c (tsem k)) (fun k => κ (dC c (tsem k))) (Es := Set.univ) (fun _ _ => Set.mem_univ _)) $$ [Ho Hv] with Hop
  · isplitl [Ho]
    · rw [bigSep_sep']
      isplitr; · iapply hI; iexact HI
      iexact Ho
    iexact Hv
  imodintro
  isplitr
  · iexists κ; unfold know; isplitr; · iexact HI
    iexact Hlev
  isplitl [Htok]; · iexact Htok
  isplitl [Hop]; · iexact Hop
  isplitl [Hat]; · iexact Hat
  isplitl [Hlo]; · iexact Hlo
  iexact Hcr

/-- What is to be known of the region at launch. -/
theorem kit : Pipeline.PLaunchFacts (nD := nD) (τ := τ) (pcfgs (F := F)) 0 where
  cellOf_inj a := by rw [Subsingleton.elim a adm]; exact cellOf_inj
  win := winFacts0
  pre := Pipeline.PreFacts.none _
  block_pos w := w.elim0
  arr_whole w := w.elim0
  stage_whole w := w.elim0

/-- What is owed lies above every wait that comes before the body. -/
theorem owed_high (c : Dev nD) (t : Fin ((Pipeline.pin (pcfgs (F := F)) adm 0).N + 1)) (g : GSem nD τ sig) (i : Unit) (h : 0 < (pdats (F := F) m 0 c).owed t g i) :
    i ∈ L g ∧ (0 : ℕ) < lv g i := by
  have e : (pdats (F := F) m 0 c).owed t = if t.val = 0 then owe0 c else 0 := rfl
  rw [e] at h
  split at h
  · have h' : 0 < owe c 0 0 g i + tallyAt (barC (yp c)) () 1 g i + tallyAt (barC (xp c)) () 1 g i := h
    rw [tallyAt_apply, tallyAt_apply] at h'
    by_cases h1 : g = barC (yp c) ∧ i = ()
    · obtain ⟨rfl, rfl⟩ := h1
      exact ⟨by rw [L_tc]; exact Finset.mem_singleton_self _, Nat.one_pos⟩
    by_cases h2 : g = barC (xp c) ∧ i = ()
    · obtain ⟨rfl, rfl⟩ := h2
      exact ⟨by rw [L_tc]; exact Finset.mem_singleton_self _, Nat.one_pos⟩
    rw [if_neg h1, if_neg h2] at h'
    rcases owe_pos c 0 0 g i h' with ⟨-, b, rfl⟩ | ⟨b, rfl⟩
    · exact ⟨by rw [L_tc]; exact Finset.mem_singleton_self _, by rw [lv_rx]; decide⟩
    · exact ⟨by rw [L_tc]; exact Finset.mem_singleton_self _, by rw [lv_ry]; decide⟩
  · exact absurd h (Nat.lt_irrefl 0)

/-- The buffers that live as long as the region are the scratch buffers. -/
theorem rest_scratch (c : Dev nD) :
    (Pipeline.scopedRest (Ix := Unit) (Name := ℕ) (U := UU) (Lvl := ℕ) (Val := Elt F) (Pipeline.pin (pcfgs (F := F)) adm 0).spec c : sProp 𝕄) = scratch c :=
  scopedRest0_eq c

/-- What a device has on entering the region, -/
theorem entering (c : Dev nD) : iprop(Pipeline.scopedRest (Pipeline.pin (pcfgs (F := F)) adm 0).spec c ∗ prng c ∗ StableHlo.held (c.tc : Thread nD τ) bufs (V₁ m c) ∗ ready m c)
    ⊢ (pdats m 0 c).Φ 0 := by
  rw [show (pdats m 0 c).Φ 0 = iprop((ready m c ∗ StableHlo.held (c : Thread nD τ) bufs (V₁ m c)) ∗ scratch c ∗ prng c) from rfl, rest_scratch]
  iintro ⟨Hs, Hp, Hh, Hr⟩
  isplitl [Hr Hh]; · isplitl [Hr] <;> iassumption
  isplitl [Hs] <;> iassumption

/-- and what it has on leaving it. -/
theorem leaving (c : Dev nD) : (pdats m 0 c).Φ (Fin.last (Pipeline.pin (pcfgs (F := F)) adm 0).N)
    ⊢ iprop(Pipeline.scopedRest (Pipeline.pin (pcfgs (F := F)) adm 0).spec c ∗ prng c ∗ StableHlo.held (c.tc : Thread nD τ) bufs (V₂ m c) ∗ Pipeline.ownSems0 bodySem c ∗ semVal (barC c) 0) := by
  rw [show (pdats m 0 c).Φ (Fin.last _) = iprop((semVal (barC c) 0 ∗ StableHlo.held (c : Thread nD τ) bufs (V₂ m c)) ∗ Pipeline.ownSems0 bodySem c ∗ scratch c ∗ prng c) from rfl, rest_scratch]
  iintro ⟨⟨Hb, Hh⟩, Hss, Hs, Hp⟩
  isplitl [Hs]; · iexact Hs
  isplitl [Hp]; · iexact Hp
  isplitl [Hh]; · iexact Hh
  isplitl [Hss] <;> iassumption

set_option backward.isDefEq.respectTransparency.types false in
/-- The region. -/
def reg : Pipeline.RegionSeg (pcfgs (F := F)) adm (pdats m) () defs₀ 𝒱₀ L lv 0 :=
  Pipeline.RegionSeg.ofTalk (pcfgs (F := F)) adm (pdats m) () defs₀ 𝒱₀ L lv 0 bodySem body_sem_facts
    bufs bufs (Finset.Subset.refl _) kit rfl (fun c => (body_step m c).loose)
    (fun _ => 0) owe0 (fun c => (owed_zero m c).trans (zero_add _).symm) (owed_last m) (fun _ => rfl) (fun _ w => w.elim0)
    (V₁ m) (V₂ m) (fun _ b hb => absurd hb (by rw [Finset.sdiff_self]; exact Finset.notMem_empty b))
    (dormant m) (fun c => semVal (barC c) 0) (ready m) (fun c => semVal (barC c) 0) (opening m) (entering m) (leaving m)
    (fun c => by iintro H; imodintro; iexact H)
    (fun _ => 0)
    ⟨fun _ w => w.elim0, fun _ w => w.elim0, fun c t g i h => owed_high m c t g i h⟩
    (fun _ => iprop(emp))
    (fun _ w => w.elim0) (fun _ w => w.elim0)

/-- The region holds no array in windows. -/
theorem held_none (c : Dev nD) (W : Valuation τ sig (Elt F)) :
    (StableHlo.held (c.tc : Thread nD τ) (Pipeline.arrRefs (τ := τ) (pcfgs (F := F) 0).spec) W : sProp 𝕄) = BI.emp := by
  have : Pipeline.arrRefs (τ := τ) (pcfgs (F := F) 0).spec = ∅ := by
    unfold Pipeline.arrRefs
    rw [Finset.map_eq_empty, Finset.image_eq_empty, Finset.univ_eq_empty]
  rw [this]
  unfold StableHlo.held
  exact BI.bigSep_empty

/-- The region can be entered once the first argument is reshaped, -/
theorem reg_pre (c : Dev nD) : iprop(StableHlo.held (c : Thread nD τ) bufs (V₁ m c) ∗ R m c) ⊢ (reg m).pre c := by
  show _ ⊢ iprop(StableHlo.held (c.tc : Thread nD τ) (Pipeline.arrRefs (τ := τ) (pcfgs (F := F) 0).spec) (V₁ m c) ∗ prng c
    ∗ (StableHlo.held (c.tc : Thread nD τ) bufs (V₁ m c) ∗ emp) ∗ dormant m c ∗ ∃ Wd, owes (c : Thread nD τ) (0 + owe0 c) Wd)
  rw [held_none, zero_add]
  unfold R ow
  iintro ⟨Hh, ⟨Hd, Hp⟩, HO⟩
  isplitr; · iempintro
  isplitl [Hp]; · iexact Hp
  isplitl [Hh]
  · isplitl [Hh]; · iexact Hh
    iempintro
  isplitl [Hd] <;> iassumption

/-- and leaves the buffers as they are at the end. -/
theorem reg_post (c : Dev nD) : (reg m).post c
    ⊢ iprop(StableHlo.held (c : Thread nD τ) bufs (V₂ m c) ∗ (semVal (barC c) 0 ∗ ∃ W, owes (c : Thread nD τ) (0 : CellTallies nD τ sig Unit) W)) := by
  show iprop(StableHlo.held (c.tc : Thread nD τ) (Pipeline.arrRefs (τ := τ) (pcfgs (F := F) 0).spec) (V₂ m c) ∗ prng c
    ∗ (StableHlo.held (c.tc : Thread nD τ) bufs (V₂ m c) ∗ emp) ∗ semVal (barC c) 0 ∗ ∃ Wd, owes (c : Thread nD τ) (0 : CellTallies nD τ sig Unit) Wd) ⊢ _
  rw [held_none]
  iintro ⟨-, -, ⟨Hh, -⟩, Hb, HO⟩
  isplitl [Hh]; · iexact Hh
  isplitl [Hb]; · iexact Hb
  iexact HO

/-- The program: the reshape, then the region. -/
def segs : List (Pipeline.Seg (pcfgs (F := F)) adm (pdats m) () defs₀ 𝒱₀ L lv) := [.host (seg0 m), .region (reg m)]

/-- The program is the reshape and the region. -/
theorem main_eq (c : Dev nD) : main (F := F) c = Pipeline.Seg.run (segs m) :=
  main_segs adm (pdats m) () 𝒱₀ L lv (seg0 m) (reg m) rfl c

/-! ## The launch -/

/-- No barrier is a transfer semaphore. -/
theorem cells_disjoint : Disjoint (barCells : Finset (GSem nD τ sig)) dmaCells := by
  rw [Finset.disjoint_left]
  rintro g h₁ h₂
  obtain ⟨c, -, rfl⟩ := Finset.mem_map.mp h₁
  obtain ⟨ck, -, h⟩ := Finset.mem_map.mp h₂
  exact barC_ne c ck.1 (tsem ck.2) h.symm

/-- The ghost state the run starts from. -/
def u₀ : UU :=
  (initOf (Pipeline.cells (Pipeline.pin (pcfgs (F := F)) adm) cellOf_inj) (Pipeline.launchToks (Pipeline.pin (pcfgs (F := F)) adm) cellOf_inj),
    (launchOf barCells dmaCells duties, 1))

/-- It is kept by device 0 until everything is dealt. -/
def G (c : Dev nD) : sProp 𝕄 := if c = 0 then BI.own (ER (launchOf barCells dmaCells duties)) else iprop(emp)
/-- All devices' parts of the rounds' resource are the whole of it. -/
theorem G_all : bigSep Finset.univ (G (F := F)) = (BI.own (ER (launchOf barCells dmaCells duties)) : sProp 𝕄) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-- What a device takes from the shared ghost state, -/
def share (c : Dev nD) : sProp 𝕄 :=
  iprop(atPos ER (barC c) 0 ∅ 0 ∗ (bigSep Finset.univ fun k : Fin 24 => openTok ER (dC c (tsem k))) ∗ tokens c)
/-- and what it holds at launch by itself. -/
def holding (c : Dev nD) : sProp 𝕄 :=
  iprop(StableHlo.held (c : Thread nD τ) bufs (V₀ m c) ∗ credits c ∗ ow c (owe0 c) ∗ prng c)

/-- What a device has at launch, -/
abbrev T₀ (c : Dev nD) : sProp 𝕄 := iprop(StableHlo.held (c : Thread nD τ) bufs (V₀ m c) ∗ R m c)
/-- and what it has at the end. -/
abbrev Tₙ (c : Dev nD) : sProp 𝕄 := iprop(StableHlo.held (c : Thread nD τ) bufs (V₂ m c) ∗ semVal (barC c) 0)

/-- At launch a device has what it needs. -/
theorem start_intro (κ : GSem nD τ sig → ℕ) (c : Dev nD) : iprop(cellsInv (opA m) (opB m) κ ∗ (share c ∗ holding m c)) ⊢ T₀ m c := by
  unfold share holding T₀ R dormant
  iintro ⟨#HI, ⟨Hat, Ho, Htok⟩, Hh, Hcr, HO, Hp⟩
  isplitl [Hh]; · iexact Hh
  isplitr [HO]
  · isplitr [Hp]
    · isplitr; · iexists κ; iexact HI
      isplitl [Htok]; · iexact Htok
      isplitl [Ho]; · iexact Ho
      isplitl [Hat] <;> iassumption
    iexact Hp
  iexact HO

/-- Everything dealt at launch. -/
theorem dealt :
    iprop((bigSep Finset.univ fun c : Dev nD => iprop(unscopedBufs c (fun b => m ((c : Thread nD τ).loc b)) ∗ unscopedSems0 c
          ∗ owes (c : Thread nD τ) (owe0 c) ∅ ∗ Pipeline.launchCred owe0 c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (owe0 c) ∅ ∗ Pipeline.launchCred owe0 c ∗ prngReg c (ρ c) ∗ G c)
      ⊢ (iprop(holding m c ∗ (semVal (barC c) 0 ∗ G c)) : sProp 𝕄) := by
    rw [show unscopedBufs c (fun b => m ((c : Thread nD τ).loc b)) = StableHlo.held (c : Thread nD τ) bufs (V₀ m c) from bufs_held c (V₀ m c),
      outer_sems]
    unfold holding ow
    iintro ⟨Hh, Hus, HO, Hcr, Hp, HG⟩
    isplitl [Hh HO Hcr Hp]
    · isplitl [Hh]; · iexact Hh
      isplitl [Hcr]; · iapply (credits_dealt c); iexact Hcr
      isplitl [HO]; · iexists ∅; iexact HO
      iexists (ρ c); iexact Hp
    isplitl [Hus] <;> iassumption
  have hv : bigSep Finset.univ (fun c : Dev nD => (semVal (barC c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barC c) 0 ∅ 0 : sProp 𝕄)) :=
    Entails.of_eq (bigSep_map (s := Finset.univ) barEmb (Φ := fun g : GSem nD τ sig => (atPos ER g 0 ∅ 0 : sProp 𝕄)))
  have hopen : bigSep dmaCells (fun g => (openTok ER g : sProp 𝕄))
      ⊢ bigSep Finset.univ (fun c : Dev nD => (bigSep Finset.univ fun k : Fin 24 => openTok ER (dC c (tsem k)) : sProp 𝕄)) :=
    Entails.of_eq (by rw [bigSep_map, bigSep_univ_prod]; rfl)
  iintro ⟨H, -⟩
  ihave H' := (show (bigSep Finset.univ fun c : Dev nD => iprop(unscopedBufs c (fun b => m ((c : Thread nD τ).loc b)) ∗ unscopedSems0 c
          ∗ owes (c : Thread nD τ) (owe0 c) ∅ ∗ Pipeline.launchCred owe0 c ∗ prngReg c (ρ c) ∗ G c))
      ⊢ (bigSep Finset.univ fun c : Dev nD => iprop(holding m c ∗ (semVal (barC c) 0 ∗ G c)) : sProp 𝕄) from bigSep_mono fun c _ => hcore c) $$ H
  ihave H2 := (Entails.of_eq (bigSep_sep' _ _ _)) $$ H'; icases H2 with ⟨HB, H3⟩
  ihave H4 := (Entails.of_eq (bigSep_sep' _ _ _)) $$ H3; icases H4 with ⟨Hv, HG⟩
  ihave Hu := (Entails.of_eq (G_all (F := F))) $$ HG
  imod (Rounds.fund_launch ER (sched (opA m) (opB m)) cells_disjoint (fun g _ h => h) duties) $$ [Hv Hu] with ⟨%κ, -, #Hinv, #Hr, Hat, Hopen, Htok⟩
  · isplitl [Hv]
    · iapply hv $$ Hv
    · iexact Hu
  imodintro
  iapply (bigSep_with_persistent (R := cellsInv (opA m) (opB m) κ) (Φ := fun c => iprop(share c ∗ holding m c)) fun c _ => start_intro m κ c)
  isplitr
  · unfold cellsInv
    isplitr; · iexact Hinv
    iexact Hr
  rw [bigSep_sep']
  isplitr [HB]
  · unfold share
    rw [bigSep_sep', bigSep_sep']
    isplitl [Hat]; · iapply hat $$ Hat
    isplitl [Hopen]; · iapply hopen $$ Hopen
    iapply (Entails.of_eq (tokens_dealt (F := F))) $$ Htok
  · iexact HB

set_option backward.isDefEq.respectTransparency.types false in
/-- The run: both arguments as they were, the result, and every semaphore at zero. -/
theorem run_main : θ_run defs (onTc (τ := τ) (main (F := F))) (s₀ m ρ)
    (fun r => (∀ c : Dev nD, (r.2.mem ((c : Thread nD τ).loc main_arg0) = m ((c : Thread nD τ).loc main_arg0)
        ∧ r.2.mem ((c : Thread nD τ).loc main_arg1) = m ((c : Thread nD τ).loc main_arg1))
        ∧ r.2.mem ((c : Thread nD τ).loc main_v2) = OUT (opA m) (opB m) c) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := owe0) (hL := L_of_ne) (G := G) (u₀ := u₀)
    (hu₀ := by
      unfold u₀
      iintro Hu
      ihave H := (ownU_pair _ _) $$ Hu
      icases H with ⟨HP, HX⟩
      ihave HX := (own_pair_emb _ _ _) $$ HX
      icases HX with ⟨HX, -⟩
      imodintro
      isplitl [HP]; · iexact HP
      rw [G_all]; iexact HX)
    (T₀ := T₀ m) (Tₙ := Tₙ m)
    (hch := by
      refine ⟨fun c => .rfl, fun c => reg_pre m c, fun c => (reg_post m c).trans ?_⟩
      show iprop(StableHlo.held (c : Thread nD τ) bufs (V₂ m c)
          ∗ (semVal (barC c) 0 ∗ ∃ W, owes (c : Thread nD τ) (0 : CellTallies nD τ sig Unit) W))
        ⊢ iprop(Tₙ m c ∗ ∃ W, owes (c : Thread nD τ) (0 : CellTallies nD τ sig Unit) W)
      iintro ⟨Hh, Hb0, HO⟩
      isplitr [HO]
      · isplitl [Hh] <;> iassumption
      · iexact HO)
    (hinit := dealt m ρ)
    (QY := fun c s => (s.mem ((c : Thread nD τ).loc main_arg0) = V₂ m c main_arg0 ∧ s.mem ((c : Thread nD τ).loc main_arg1) = V₂ m c main_arg1
      ∧ s.mem ((c : Thread nD τ).loc main_v2) = V₂ m c main_v2) ∧ s.sem (barC c) = 0)
    (hfin := fun c s' => by
      dsimp only [Tₙ]; rw [bufs_eq]
      iintro ⟨⟨⟨H0, H1, -, H2⟩, Hb0⟩, HSI⟩
      icombine HSI H0 gives %h0
      icombine HSI H1 gives %h1
      icombine HSI H2 gives %h2
      icombine HSI Hb0 gives %hb
      imodintro
      isplitr
      · ipureintro
        exact ⟨⟨Buf.eq_of_forall_mem_univ h0, Buf.eq_of_forall_mem_univ h1, Buf.eq_of_forall_mem_univ h2⟩, by simpa using hb⟩
      iexact HSI)
    (hQ := fun s h hs => ⟨fun c => by
        obtain ⟨⟨h0, h1, h2⟩, -⟩ := h c
        rw [V₂_arg0] at h0; rw [V₂_arg1] at h1; rw [V₂_v2] at h2
        exact ⟨⟨h0.trans (V_main_arg0 m c), h1.trans (V_main_arg1 m c)⟩, h2⟩,
      sem_eq_zero hs fun c sm hsm => by
        obtain rfl := outer_sem sm hsm
        exact (h c).2⟩)

end TwoStage
-- ==== Proof.Value.lean ====
module

public import proofs.«01_k».proof.Proof.Run
public import proofs.«01_k».proof.Proof.Gen.ReferenceIdeal.Run
public import Idealize.ShloMosaic.Lib.Pointwise
public import Idealize.ShloMosaic.Lib.Layout

/-!
# The result over real numbers

The product of the whole activations with the whole weights is a sum over 4096 features. A device of row `r`
of the mesh holds features `2048 r` to `2048 r + 2047`: its product is one half of that sum, and the product
its peer in the other row computes for it is the other half.
-/

@[expose] public section

noncomputable section

namespace TwoStage

open Idealize.ShloMosaic Idealize.ShloMosaic.TcCoe Idealize.ShloMosaic.ValueIdx
open Cert.KernelIdeal Cert.KernelIdeal.Gen

section Values

variable {A : Dev nD → Vec Ideal S4x1024x2048 .f32} {B : Dev nD → Vec Ideal S2048x4096 .f32}

/-- A product of two slabs with the weights, at a row and a column. -/
theorem PR_apply (c : Dev nD) (r m : ℕ) (i : S1024x2048.Idx) :
    PR A B c r m i = ∑ k : Fin 2048, A c (at3 4 1024 2048 (2 * m + (i 0).val / 512) (512 * r + (i 0).val % 512) k.val)
      * B c (at2 2048 4096 k.val (2048 * col c + (i 1).val)) := by
  unfold PR
  pointwise [k0_pay6]
  exact Finset.sum_congr rfl fun k _ => rfl

/-- What a device keeps is its own product plus its peer's: over real numbers the narrowing in between is nothing. -/
theorem YV_apply (c : Dev nD) (m : ℕ) (i : S1024x2048.Idx) :
    YV A B c m i = PR A B c (row c) m i + PR A B (xp c) (row c) m i := by
  have h : (1 - row (xp c) : ℕ) = row c := by rw [row_xp]; have := row_lt c; omega
  show PR A B c (row c) m i + PR A B (xp c) (1 - row (xp c)) m i = _
  rw [h]

/-- A sum over 4096 features, as the half that a device's row holds and the other half. -/
theorem sum_halves (f : ℕ → EReal) (c : Dev nD) :
    ∑ k : Fin 4096, f k.val = ∑ k : Fin 2048, f (2048 * row c + k.val) + ∑ k : Fin 2048, f (2048 * row (xp c) + k.val) := by
  have h : ∑ k : Fin 4096, f k.val = ∑ k : Fin 2048, f (2048 * 0 + k.val) + ∑ k : Fin 2048, f (2048 * 1 + k.val) := by
    refine (Fin.sum_univ_add (a := 2048) (b := 2048) fun k => f k.val).trans ?_
    simp [add_comm]
  rw [h, row_xp]
  have hr := row_lt c
  obtain hc | hc : row c = 0 ∨ row c = 1 := by omega
  · rw [hc]
  · rw [hc]; exact add_comm _ _

variable {X : (⟨3, ![4, 1024, 4096]⟩ : Shape).Idx → EReal} {W : (⟨2, ![4096, 4096]⟩ : Shape).Idx → EReal}

/-- Feature `k`'s part of the whole product at batch `b`, row `s` and column `n`. -/
def part (X : (⟨3, ![4, 1024, 4096]⟩ : Shape).Idx → EReal) (W : (⟨2, ![4096, 4096]⟩ : Shape).Idx → EReal) (b s n k : ℕ) : EReal :=
  X (at3 4 1024 4096 b s k) * W (at2 4096 4096 k n)

/-- A device's product is its half of the whole one. -/
theorem PR_part
    (hA : ∀ c i, A c i = X (at3 4 1024 4096 (i 0).val (i 1).val (2048 * row c + (i 2).val)))
    (hB : ∀ c i, B c i = W (at2 4096 4096 (2048 * row c + (i 0).val) (i 1).val))
    (c : Dev nD) {r m : ℕ} (hr : r < 2) (hm : m < 2) (i : S1024x2048.Idx) :
    PR A B c r m i = ∑ k : Fin 2048, part X W (2 * m + (i 0).val / 512) (512 * r + (i 0).val % 512) (2048 * col c + (i 1).val)
      (2048 * row c + k.val) := by
  have h0 : (i 0).val < 1024 := (i 0).isLt
  have h1 : (i 1).val < 2048 := (i 1).isLt
  have hc := col_lt c
  have hb : (2 * m + (i 0).val / 512) % 4 = 2 * m + (i 0).val / 512 := Nat.mod_eq_of_lt (by omega)
  have hs : (512 * r + (i 0).val % 512) % 1024 = 512 * r + (i 0).val % 512 := Nat.mod_eq_of_lt (by omega)
  have hn : (2048 * col c + (i 1).val) % 4096 = 2048 * col c + (i 1).val := Nat.mod_eq_of_lt (by omega)
  rw [PR_apply]
  refine Finset.sum_congr rfl fun k _ => ?_
  rw [hA, hB, at3_0, at3_1, at3_2, at2_0, at2_1, hb, hs, hn, Nat.mod_eq_of_lt k.isLt]
  rfl

/-- The result on a device, at an index: the whole product, at the rows that its row of the mesh owns. -/
theorem OUT_apply
    (hA : ∀ c i, A c i = X (at3 4 1024 4096 (i 0).val (i 1).val (2048 * row c + (i 2).val)))
    (hB : ∀ c i, B c i = W (at2 4096 4096 (2048 * row c + (i 0).val) (i 1).val))
    (c : Dev nD) (i : S4x512x4096.Idx) :
    OUT A B c i = ∑ k : Fin 4096, part X W (i 0).val (512 * row c + (i 1).val) (i 2).val k.val := by
  have h0 : (i 0).val < 4 := (i 0).isLt
  have h1 : (i 1).val < 512 := (i 1).isLt
  have h2 : (i 2).val < 4096 := (i 2).isLt
  have hh : (i 2).val / 2048 < 2 := by omega
  have hrow : row (inCol c ((i 2).val / 2048)) = row c := by
    show (2 * row c + (i 2).val / 2048) % 4 / 2 = row c
    have := row_lt c
    omega
  have hcol : col (inCol c ((i 2).val / 2048)) = (i 2).val / 2048 := by
    show (2 * row c + (i 2).val / 2048) % 4 % 2 = (i 2).val / 2048
    omega
  have e0 : (512 * ((i 0).val % 2) + (i 1).val) % 1024 = 512 * ((i 0).val % 2) + (i 1).val := Nat.mod_eq_of_lt (by omega)
  have eb : 2 * ((i 0).val / 2) + (512 * ((i 0).val % 2) + (i 1).val) / 512 = (i 0).val := by omega
  have es : (512 * ((i 0).val % 2) + (i 1).val) % 512 = (i 1).val := by omega
  have en : 2048 * ((i 2).val / 2048) + (i 2).val % 2048 % 2048 = (i 2).val := by omega
  unfold OUT
  rw [YV_apply, sum_halves _ (inCol c ((i 2).val / 2048)),
    PR_part hA hB _ (row_lt _) (by omega), PR_part hA hB _ (row_lt _) (by omega),
    col_xp, hrow, hcol, at2_0, at2_1, e0, eb, es, en]

/-- The reference's result, at an index: the whole product. -/
theorem ref_apply (X : FVec Ideal ⟨3, ![4, 1024, 4096]⟩ .f32) (W : FVec Ideal ⟨2, ![4096, 4096]⟩ .f32)
    (i : (⟨3, ![4, 1024, 4096]⟩ : Shape).Idx) :
    (truncf .bf16 (Host.dotGeneral (φ₁ := .f32) (φ₂ := .f32) Cert.ReferenceIdeal.dot_S4x1024x4096_S4096x4096_S4x1024x4096_2_0_01_1_n_n none
      X W) bitsLt_bf16_f32 : FVec Ideal ⟨3, ![4, 1024, 4096]⟩ .bf16) i
      = ∑ k : Fin 4096, part X W (i 0).val (i 1).val (i 2).val k.val := by
  have h0 : (i 0).val < 4 := (i 0).isLt
  have h1 : (i 1).val < 1024 := (i 1).isLt
  have h2 : (i 2).val < 4096 := (i 2).isLt
  pointwise
  refine Finset.sum_congr rfl fun k _ => ?_
  have eX : Idealize.ShloMosaic.ix3 (i 0) (i 1) k = at3 4 1024 4096 (i 0).val (i 1).val k.val :=
    ext3 (by rw [at3_0]; exact (Nat.mod_eq_of_lt h0).symm) (by rw [at3_1]; exact (Nat.mod_eq_of_lt h1).symm)
      (by rw [at3_2]; exact (Nat.mod_eq_of_lt k.isLt).symm)
  have eW : Idealize.ShloMosaic.ix2 k (i 2) = at2 4096 4096 k.val (i 2).val :=
    ext2 (by rw [at2_0]; exact (Nat.mod_eq_of_lt k.isLt).symm) (by rw [at2_1]; exact (Nat.mod_eq_of_lt h2).symm)
  exact congrArg₂ (fun a b => X a * W b) eX eW

/-! ## The arguments -/

/-- A device's row, as its block number where an array is cut along the mesh's rows. -/
theorem meshLin_row (c : Dev nD) : Layout.meshLin [2, 2] c.val [0] = row c := by revert c; decide

/-- The activations a device works on are its features of the whole activations. -/
theorem opA_apply (m : (ℓ : Loc nD τ sig) → Buf (Elt Ideal) ℓ) (O : Vec Ideal ⟨4, ![4, 1024, 32, 128]⟩ .f32) (c : Dev nD)
    (h : (⟨4, ![4, 1024, 32, 128]⟩ : Shape).ShapeCasts ⟨3, ![4, 1024, 4096]⟩)
    (hm : m ((c.tc : Thread nD τ).loc main_arg0)
      = Layout.blockN ⟨4, ![4, 1024, 16, 128]⟩ ⟨4, ![4, 1024, 32, 128]⟩ (Layout.meshBlock [2, 2] ![[], [], [0], []] c) O)
    (i : S4x1024x2048.Idx) :
    opA m c i = shapeCast (α := EReal) ⟨3, ![4, 1024, 4096]⟩ O h (at3 4 1024 4096 (i 0).val (i 1).val (2048 * row c + (i 2).val)) := by
  have e : opA m c = shapeCast (α := EReal) S4x1024x2048 (m ((c.tc : Thread nD τ).loc main_arg0)) shapeCasts_S4x1024x16x128_S4x1024x2048 := by
    unfold opA V₁
    after_results <;> rfl
  have h0 : (i 0).val < 4 := (i 0).isLt
  have h1 : (i 1).val < 1024 := (i 1).isLt
  have h2 : (i 2).val < 2048 := (i 2).isLt
  have hr := row_lt c
  rw [e, hm]
  pointwise
  refine congrArg O (funext fun a => Fin.ext ?_)
  fin_cases a
  · show 0 * 4 + (i 0).val = (at3 4 1024 4096 (i 0).val (i 1).val (2048 * row c + (i 2).val) 0).val
    rw [at3_0]; omega
  · show 0 * 1024 + (i 1).val = (at3 4 1024 4096 (i 0).val (i 1).val (2048 * row c + (i 2).val) 1).val
    rw [at3_1]; omega
  · show Layout.meshLin [2, 2] c.val [0] * 16 + (i 2).val / 128
      = (at3 4 1024 4096 (i 0).val (i 1).val (2048 * row c + (i 2).val) 2).val / 128
    rw [at3_2, meshLin_row]; omega
  · show 0 * 128 + (i 2).val % 128 = (at3 4 1024 4096 (i 0).val (i 1).val (2048 * row c + (i 2).val) 2).val % 128
    rw [at3_2]; omega

/-- The weights a device works on are its features of the whole weights. -/
theorem opB_apply (m : (ℓ : Loc nD τ sig) → Buf (Elt Ideal) ℓ) (W : Vec Ideal ⟨2, ![4096, 4096]⟩ .f32) (c : Dev nD)
    (hm : m ((c.tc : Thread nD τ).loc main_arg1)
      = Layout.blockN ⟨2, ![2048, 4096]⟩ ⟨2, ![4096, 4096]⟩ (Layout.meshBlock [2, 2] ![[0], []] c) W)
    (i : S2048x4096.Idx) :
    opB m c i = W (at2 4096 4096 (2048 * row c + (i 0).val) (i 1).val) := by
  have e : opB m c = m ((c.tc : Thread nD τ).loc main_arg1) := V_main_arg1 m c
  have h0 : (i 0).val < 2048 := (i 0).isLt
  have h1 : (i 1).val < 4096 := (i 1).isLt
  have hr := row_lt c
  rw [e, hm]
  refine congrArg W (ext2 ?_ ?_)
  · show Layout.meshLin [2, 2] c.val [0] * 2048 + (i 0).val = _
    rw [at2_0, meshLin_row]; omega
  · show 0 * 4096 + (i 1).val = _
    rw [at2_1]; omega

/-- The result on a device is its block of rows of the reference's. -/
theorem OUT_block (m : (ℓ : Loc nD τ sig) → Buf (Elt Ideal) ℓ) (O : Vec Ideal ⟨4, ![4, 1024, 32, 128]⟩ .f32)
    (W : Vec Ideal ⟨2, ![4096, 4096]⟩ .f32)
    (hO : ∀ c : Dev nD, m ((c.tc : Thread nD τ).loc main_arg0)
      = Layout.blockN ⟨4, ![4, 1024, 16, 128]⟩ ⟨4, ![4, 1024, 32, 128]⟩ (Layout.meshBlock [2, 2] ![[], [], [0], []] c) O)
    (hW : ∀ c : Dev nD, m ((c.tc : Thread nD τ).loc main_arg1)
      = Layout.blockN ⟨2, ![2048, 4096]⟩ ⟨2, ![4096, 4096]⟩ (Layout.meshBlock [2, 2] ![[0], []] c) W)
    (h : (⟨4, ![4, 1024, 32, 128]⟩ : Shape).ShapeCasts ⟨3, ![4, 1024, 4096]⟩) (c : Dev nD) :
    OUT (opA m) (opB m) c = Layout.blockN ⟨3, ![4, 512, 4096]⟩ ⟨3, ![4, 1024, 4096]⟩ (Layout.meshBlock [2, 2] ![[], [0], []] c)
      (truncf .bf16 (Host.dotGeneral (φ₁ := .f32) (φ₂ := .f32) Cert.ReferenceIdeal.dot_S4x1024x4096_S4096x4096_S4x1024x4096_2_0_01_1_n_n none
        (shapeCast _ O h) W) bitsLt_bf16_f32 : FVec Ideal ⟨3, ![4, 1024, 4096]⟩ .bf16) := by
  funext i
  rw [OUT_apply (fun c i => opA_apply m O c h (hO c) i) (fun c i => opB_apply m W c (hW c) i)]
  refine Eq.trans ?_ (ref_apply _ W _).symm
  refine Finset.sum_congr rfl fun k _ => ?_
  show part _ W _ _ _ _ = part _ W (0 * 4 + (i 0).val) (Layout.meshLin [2, 2] c.val [0] * 512 + (i 1).val) (0 * 4096 + (i 2).val) _
  simp only [meshLin_row, Nat.zero_mul, Nat.zero_add, Nat.mul_comm]

end Values

end TwoStage
-- ==== Proof.lean ====
module

public import proofs.«01_k».proof.Defs
public import proofs.«01_k».proof.Proof.Gen.Kernel
public import proofs.«01_k».proof.Proof.Value
public import proofs.«01_k».proof.Proof.Gen.ReferenceIdeal.Run

/-!
# The claims

Each program's run, with the kernel's run taken from the one proved for every kind of float.
-/

@[expose] public section

noncomputable section

namespace Cert.Proof

open Idealize.ShloMosaic Idealize.SL.Sem

/-- The kernel ends with its arguments unchanged and every semaphore at zero, over words, -/
theorem quiescent_Kernel : Cert.quiescent_Kernel := fun m ρ _ =>
  (θ_run Cert.KernelIdeal.defs _ _).mono (fun _ h => ⟨fun c => (h.1 c).1, h.2⟩) (TwoStage.run_main (F := Bits) m ρ)

/-- and over real numbers. -/
theorem quiescent_KernelIdeal : Cert.quiescent_KernelIdeal := fun m ρ _ =>
  (θ_run Cert.KernelIdeal.defs _ _).mono (fun _ h => ⟨fun c => (h.1 c).1, h.2⟩) (TwoStage.run_main (F := Ideal) m ρ)

/-- The reference ends with its arguments unchanged and every semaphore at zero. -/
theorem quiescent_ReferenceIdeal : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- Over real numbers, the kernel's results on the devices are the blocks of rows of the reference's result. -/
theorem algebraic : Cert.algebraic_KernelIdeal_ReferenceIdeal := fun m g m' g' _ h =>
  ⟨_, (θ_run Cert.KernelIdeal.defs _ _).mono
      (fun _ r c => ⟨((r.1 c).2).trans (TwoStage.OUT_block m _ _ (fun c => (h c).1) (fun c => (h c).2) _ c), (r.1 c).1⟩)
      (TwoStage.run_main (F := Ideal) m g),
    (θ_run Cert.ReferenceIdeal.defs _ _).mono (fun _ r => r 0) (Cert.ReferenceIdeal.Value.run (F := Ideal) m' g')⟩

/-- Every claim made of the kernel. -/
theorem claim : Cert.Claim := ⟨Cert.Kernel.Gen.facts, Cert.KernelIdeal.Gen.facts, Cert.ReferenceIdeal.Gen.facts,
  quiescent_Kernel, quiescent_KernelIdeal, quiescent_ReferenceIdeal, trivial, algebraic⟩

end Cert.Proof

end
